-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 2048, 1024]⟩ ⟨3, ![4, 16384, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![4, 2048, 1024]⟩ ⟨3, ![4, 16384, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S4x1024 : Shape := ⟨2, ![4, 1024]⟩
abbrev S4x3x1024 : Shape := ⟨3, ![4, 3, 1024]⟩
abbrev S_ : Shape := ⟨0, ![]⟩
abbrev S1x2048x1024 : Shape := ⟨3, ![1, 2048, 1024]⟩
abbrev S2048x1024 : Shape := ⟨2, ![2048, 1024]⟩
abbrev S1x3x1024 : Shape := ⟨3, ![1, 3, 1024]⟩
abbrev S3x1024 : Shape := ⟨2, ![3, 1024]⟩
abbrev S2051x1024 : Shape := ⟨2, ![2051, 1024]⟩
abbrev S1x1024 : Shape := ⟨2, ![1, 1024]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4x2048x1024, .bf16⟩
  | .hbm, ⟨1, _⟩ => ⟨S4x1024, .bf16⟩
  | .hbm, ⟨2, _⟩ => ⟨S4x3x1024, .bf16⟩
  | .hbm, ⟨3, _⟩ => ⟨S4x3x1024, .bf16⟩
  | .hbm, ⟨4, _⟩ => ⟨S4x2048x1024, .bf16⟩
  | .local _ .vmem, ⟨0, _⟩ => ⟨S4x3x1024, .bf16⟩
  | .local _ .vmem, ⟨1, _⟩ => ⟨S4x3x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S4x1024, .bf16⟩
  | .local _ .vmem, ⟨5, _⟩ => ⟨S4x3x1024, .bf16⟩
  | .local _ .vmem, ⟨6, _⟩ => ⟨S1x2048x1024, .bf16⟩
  | .local _ .vmem, ⟨7, _⟩ => ⟨S1x2048x1024, .bf16⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 2 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg3_1 : Ref sig .tc := ⟨.vmem, 7, rfl⟩
abbrev cc0_sem0_0 : DmaSem sig := 0
abbrev cc0_sem1_0 : DmaSem sig := 1
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v13 : BitVec 1 := Scalar.cmpi .slt v2 c7_i32
  let v14 : BitVec 32 := Scalar.extui v13
  let c0_i32_10 : BitVec 32 := 0#32
  let v15 : BitVec 1 := Scalar.cmpi .ne v14 c0_i32_10
  v15

def k0_dev3 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_17 : BitVec 32 := 1#32
  let v25 : BitVec 32 := Scalar.muli v7 c1_i32_17
  let v26 : BitVec 32 := Scalar.addi c0_i32_18 v25
  v26.toNat
def k0_dev4 (d0 : Dev nD) : Nat :=
  let c0_i32_19_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let v4 : BitVec 32 := Scalar.addi v3 c8_i32_1
  let c8_i32_2 : BitVec 32 := 8#32
  let v5 : BitVec 32 := Scalar.remsi v4 c8_i32_2
  let c1_i32_18_r0 : BitVec 32 := 1#32
  let v26_r0 : BitVec 32 := Scalar.muli v5 c1_i32_18_r0
  let v27_r0 : BitVec 32 := Scalar.addi c0_i32_19_r0 v26_r0
  v27_r0.toNat
def k0_dev5 (d0 : Dev nD) : Nat :=
  let c0_i32_22_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_21_r0 : BitVec 32 := 1#32
  let v28_r0 : BitVec 32 := Scalar.muli v7 c1_i32_21_r0
  let v29_r0 : BitVec 32 := Scalar.addi c0_i32_22_r0 v28_r0
  v29_r0.toNat
abbrev stage0_0 : Fin 1 → Memref sig .tc .vmem S4x3x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x3x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![4], ![false]⟩

def k1_off1 (i : grid1.Coords) : Fin 3 → Nat :=
  let arg0 : BitVec 32 := BitVec.ofNat 32 (i 0).val
  let v4 : Index := Scalar.indexCast arg0
  let c0_4 : Index := 0#32
  let c0_5 : Index := 0#32
  ![v4.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4x3x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S4x16384x1024 : Shape := ⟨3, ![4, 16384, 1024]⟩
abbrev S4x1024 : Shape := ⟨2, ![4, 1024]⟩
abbrev S_ : Shape := ⟨0, ![]⟩
abbrev S4x3x1024 : Shape := ⟨3, ![4, 3, 1024]⟩
abbrev S4x16387x1024 : Shape := ⟨3, ![4, 16387, 1024]⟩
abbrev S1x1024 : Shape := ⟨2, ![1, 1024]⟩
abbrev S1024 : Shape := ⟨1, ![1024]⟩
abbrev S1x1x1024 : Shape := ⟨3, ![1, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x16384x1024, .bf16⟩
  | .hbm, ⟨1, _⟩ => ⟨S4x1024, .bf16⟩
  | .hbm, ⟨2, _⟩ => ⟨S4x16384x1024, .f32⟩
  | .hbm, ⟨3, _⟩ => ⟨S4x1024, .f32⟩
  | .hbm, ⟨4, _⟩ => ⟨S_, .f32⟩
  | .hbm, ⟨5, _⟩ => ⟨S4x3x1024, .f32⟩
  | .hbm, ⟨6, _⟩ => ⟨S4x16387x1024, .f32⟩
  | .hbm, ⟨7, _⟩ => ⟨S_, .f32⟩
  | .hbm, ⟨8, _⟩ => ⟨S4x16384x1024, .f32⟩
  | .hbm, ⟨9, _⟩ => ⟨S4x16384x1024, .f32⟩
  | .hbm, ⟨10, _⟩ => ⟨S1x1024, .f32⟩
  | .hbm, ⟨11, _⟩ => ⟨S1024, .f32⟩
  | .hbm, ⟨12, _⟩ => ⟨S1x1x1024, .f32⟩
  | .hbm, ⟨13, _⟩ => ⟨S4x16384x1024, .f32⟩
  | .hbm, ⟨14, _⟩ => ⟨S4x16384x1024, .f32⟩
  | .hbm, ⟨15, _⟩ => ⟨S4x16384x1024, .f32⟩
  | .hbm, ⟨16, _⟩ => ⟨S4x16384x1024, .f32⟩
  | .hbm, ⟨17, _⟩ => ⟨S1x1024, .f32⟩
  | .hbm, ⟨18, _⟩ => ⟨S1024, .f32⟩
  | .hbm, ⟨19, _⟩ => ⟨S1x1x1024, .f32⟩
  | .hbm, ⟨20, _⟩ => ⟨S4x16384x1024, .f32⟩
  | .hbm, ⟨21, _⟩ => ⟨S4x16384x1024, .f32⟩
  | .hbm, ⟨22, _⟩ => ⟨S4x16384x1024, .f32⟩
  | .hbm, ⟨23, _⟩ => ⟨S4x16384x1024, .f32⟩
  | .hbm, ⟨24, _⟩ => ⟨S1x1024, .f32⟩
  | .hbm, ⟨25, _⟩ => ⟨S1024, .f32⟩
  | .hbm, ⟨26, _⟩ => ⟨S1x1x1024, .f32⟩
  | .hbm, ⟨27, _⟩ => ⟨S4x16384x1024, .f32⟩
  | .hbm, ⟨28, _⟩ => ⟨S4x16384x1024, .f32⟩
  | .hbm, ⟨29, _⟩ => ⟨S4x16384x1024, .f32⟩
  | .hbm, ⟨30, _⟩ => ⟨S4x16384x1024, .f32⟩
  | .hbm, ⟨31, _⟩ => ⟨S1x1024, .f32⟩
  | .hbm, ⟨32, _⟩ => ⟨S1024, .f32⟩
  | .hbm, ⟨33, _⟩ => ⟨S1x1x1024, .f32⟩
  | .hbm, ⟨34, _⟩ => ⟨S4x16384x1024, .f32⟩
  | .hbm, ⟨35, _⟩ => ⟨S4x16384x1024, .f32⟩
  | .hbm, ⟨36, _⟩ => ⟨S4x16384x1024, .f32⟩
  | .hbm, ⟨37, _⟩ => ⟨S4x16384x1024, .f32⟩
  | .hbm, ⟨38, _⟩ => ⟨S4x16384x1024, .f32⟩
  | .hbm, ⟨39, _⟩ => ⟨S_, .f32⟩
  | .hbm, ⟨40, _⟩ => ⟨S4x16384x1024, .f32⟩
  | .hbm, ⟨41, _⟩ => ⟨S4x16384x1024, .f32⟩
  | .hbm, ⟨42, _⟩ => ⟨S4x16384x1024, .f32⟩
  | .hbm, ⟨43, _⟩ => ⟨S4x16384x1024, .bf16⟩
  | _, _ => ⟨S4x16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_1 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩

abbrev nD : Nat := 1
abbrev τ : Topo := Topo.v7x

variable {F : FTy → Type} [FloatOps F]
-- ==== Proof.Protocol.lean ====
/-
The communication protocol of the halo kernel (custom call 0), stated once for any float values.

Eight devices stand in a ring. Each one signals both neighbours' barrier cell and waits for two units on its own; then every
device but the last copies its three trailing rows into its right neighbour's halo buffer; device 0, which has no left neighbour,
writes zeros into its own; then the receives and the sends are waited for, and a second two-sided handshake ends the kernel.

A device's barrier cell and exit cell have two duties each: `true` is paid by its right neighbour and `false` by its left one.
The barrier unit that a device pays to its left neighbour carries the right to write the device's halo buffer. The receive cell
of a device has a duty only where a left neighbour exists, the send cell only where a right neighbour exists.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.Kit
public import Idealize.ShloMosaic.Lib.Rounds
public import Idealize.ShloMosaic.Lib.Tactic

@[expose] public section

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The ghost state: the pipeline's copy and the protocol's -/

/-- The protocol's own resource: rounds over every cell of the machine, two names of duties. -/
abbrev UB : Type := URounds (GSem nD τ sig) Bool
/-- The whole user resource: the pipeline library's beside the protocol's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ)

/-! ## The ring -/

set_option backward.proofsInPublic true in
/-- The left neighbour. -/
def lft (c : Dev nD) : Dev nD := ⟨(c.val + 7) % 8, Nat.mod_lt _ (by decide)⟩
set_option backward.proofsInPublic true in
/-- The right neighbour. -/
def rgt (c : Dev nD) : Dev nD := ⟨(c.val + 1) % 8, Nat.mod_lt _ (by decide)⟩

theorem lft_rgt (c : Dev nD) : lft (rgt c) = c := by revert c; decide
theorem rgt_lft (c : Dev nD) : rgt (lft c) = c := by revert c; decide
/-- The step to the right, as a bijection of the devices. -/
def ring : Dev nD ≃ Dev nD := ⟨rgt, lft, lft_rgt, rgt_lft⟩

/-- A halo arrives at every device but the first. -/
abbrev gets (c : Dev nD) : Prop := 0 < c.val
/-- Every device but the last sends one. -/
abbrev sends (c : Dev nD) : Prop := c.val < 7
theorem gets_rgt (c : Dev nD) : gets (rgt c) ↔ sends c := by revert c; decide

theorem dev1_eq (c : Dev nD) : (⟨k0_dev1 c, k0_dev1_lt c⟩ : Dev nD) = lft c := Fin.ext (k0_dev1_eq c)
theorem dev2_eq (c : Dev nD) : (⟨k0_dev2 c, k0_dev2_lt c⟩ : Dev nD) = rgt c := Fin.ext (k0_dev2_eq c)
theorem dev3_eq (c : Dev nD) (h : k0_cond1 c = 1#1) : (⟨k0_dev3 c, k0_dev3_lt c h⟩ : Dev nD) = rgt c := Fin.ext (k0_dev3_eq c)
theorem dev4_eq (c : Dev nD) : (⟨k0_dev4 c, k0_dev4_lt c⟩ : Dev nD) = lft c := Fin.ext (k0_dev4_eq c)
theorem dev5_eq (c : Dev nD) : (⟨k0_dev5 c, k0_dev5_lt c⟩ : Dev nD) = rgt c := Fin.ext (k0_dev5_eq c)

/-! ## Buffers and cells -/

/-- The three rows a device sends, staged; the halo it gets, staged. -/
abbrev xM : Memref sig .tc .vmem S4x3x1024 .bf16 := Memref.whole cc0_stg0_0
abbrev hM : Memref sig .tc .vmem S4x3x1024 .bf16 := Memref.whole cc0_stg1_0

abbrev barS : Sem sig := (SemArray.scalar (sig.barrier 0 rfl) : Sems sig S_).sem
abbrev exitS : Sem sig := cc0_scoped0.sem
abbrev sendS : DmaSem sig := cc0_scratch0.sem
abbrev recvS : DmaSem sig := cc0_scratch1.sem

abbrev barCell (c : Dev nD) : GSem nD τ sig := ((c : Thread nD τ), .reg barS)
abbrev exitCell (c : Dev nD) : GSem nD τ sig := ((c : Thread nD τ), .reg exitS)
abbrev sendCell (c : Dev nD) : GSem nD τ sig := ((c : Thread nD τ), .dma sendS)
abbrev recvCell (c : Dev nD) : GSem nD τ sig := ((c : Thread nD τ), .dma recvS)

/-- The kernel's own scoped semaphores: send, receive, exit. -/
abbrev osem0 : Fin 3 → SemLoc sig := fun | 0 => .dma sendS | 1 => .dma recvS | 2 => .reg exitS

/-- The credit of one halo copy. -/
abbrev N : ℕ := (hM : Memref sig .tc .vmem S4x3x1024 .bf16).view.dmaCredit
theorem N_pos : 0 < N := View.dmaCredit_pos _ (by decide)

/-! ## Contents -/

/-- What the pipeline stages for device `c` to send: its three trailing rows. -/
def xstg (c : Dev nD) : (cc0_stg0_0 : Ref sig .tc).ty.Contents (Elt F) :=
  ((cfg0.win 0).blk t0_0).view.read (Elt F) (V1 m c main_v1)

/-- What device `c`'s halo buffer ends with: the left neighbour's rows, or zeros on the first device. -/
def landed (c : Dev nD) : (cc0_stg1_0 : Ref sig .tc).ty.Contents (Elt F) := if gets c then xstg m (lft c) else k0_pay1

theorem landed_rgt (c : Dev nD) (h : sends c) : landed m (rgt c) = xstg m c := by
  unfold landed; rw [if_pos ((gets_rgt c).mpr h), lft_rgt]

omit [FloatOps F] in
/-- A copy of the whole staged rows leaves exactly them. -/
theorem copy_whole (fd : (cc0_stg1_0 : Ref sig .tc).ty.Contents (Elt F)) (fs : (cc0_stg0_0 : Ref sig .tc).ty.Contents (Elt F)) :
    (hM : Memref sig .tc .vmem S4x3x1024 .bf16).view.write (Elt F) fd ((xM : Memref sig .tc .vmem S4x3x1024 .bf16).view.read (Elt F) fs) Finset.univ = fs := by
  show (View.whole cc0_stg1_0).write (Elt F) fd ((View.whole cc0_stg0_0).read (Elt F) fs) Finset.univ = fs
  rw [View.read_whole]
  exact View.write_whole_univ _ _ _

/-- Device `c`'s halo buffer at `f`, through the copy's destination. -/
def haloPts (c : Dev nD) (f : Buf (Elt F) ((hM : Memref sig .tc .vmem S4x3x1024 .bf16).view.loc (c : Thread nD τ))) : sProp 𝕄 :=
  (hM : Memref sig .tc .vmem S4x3x1024 .bf16).view.loc (c : Thread nD τ) ↦[(hM : Memref sig .tc .vmem S4x3x1024 .bf16).view.set]{fullShare} f
/-- Device `c`'s staged rows, through the copy's source. -/
def rowPts (c : Dev nD) : sProp 𝕄 :=
  (xM : Memref sig .tc .vmem S4x3x1024 .bf16).view.loc (c : Thread nD τ) ↦[(xM : Memref sig .tc .vmem S4x3x1024 .bf16).view.set]{fullShare} xstg m c

omit [FloatOps F] in
instance haloPts_storable (c : Dev nD) (f) : BI.Storable (upEmb : UEmb _ 𝕄) (haloPts (F := F) c f) := by unfold haloPts; infer_instance
instance rowPts_storable (c : Dev nD) : BI.Storable (upEmb : UEmb _ 𝕄) (rowPts (F := F) m c) := by unfold rowPts; infer_instance

omit [FloatOps F] in
theorem halo_set : (hM : Memref sig .tc .vmem S4x3x1024 .bf16).view.set = Finset.univ := View.set_whole _
omit [FloatOps F] in
theorem haloPts_eq (c : Dev nD) (f : Buf (Elt F) ((c : Thread nD τ).loc cc0_stg1_0)) :
    haloPts c f = (((c : Thread nD τ).loc cc0_stg1_0) ↦{fullShare} f : sProp 𝕄) := by unfold haloPts; rw [halo_set]
theorem rowPts_eq (c : Dev nD) : rowPts m c = (((c : Thread nD τ).loc cc0_stg0_0) ↦{fullShare} xstg m c : sProp 𝕄) := by
  unfold rowPts; rw [View.set_whole]

/-! ## The schedule -/

/-- What device `d` hands its left neighbour at the entry handshake where a halo will arrive: its halo buffer, and that it
    stands at the first round of its receive cell. Nothing on the first device. -/
def give (d : Dev nD) : sProp 𝕄 := if gets d then iprop((∃ f, haloPts d f) ∗ reached ER (recvCell d) 0) else iprop(emp)
/-- What device `d` keeps: its halo buffer where no halo will arrive. -/
def keep (d : Dev nD) : sProp 𝕄 := if gets d then iprop(emp) else iprop(∃ f, haloPts d f)

omit [FloatOps F] in
instance give_storable (d : Dev nD) : BI.Storable (upEmb : UEmb _ 𝕄) (give (F := F) d) := by
  unfold give; split <;> infer_instance

/-- What a barrier unit carries to `c`: from the right neighbour what it gives, from the left one only its place at the exit. -/
def barPay (c : Dev nD) (d : Bool) : sProp 𝕄 :=
  if d then iprop(reached ER (exitCell (rgt c)) 0 ∗ give (rgt c)) else reached ER (exitCell (lft c)) 0

omit [FloatOps F] in
instance barPay_storable (c : Dev nD) (d : Bool) : BI.Storable (upEmb : UEmb _ 𝕄) (barPay (F := F) c d) := by
  unfold barPay; split <;> infer_instance

/-- The duties of the first round: two on every barrier and exit cell, one on a receive or send cell that is used. -/
def dutiesOf (g : GSem nD τ sig) : Finset Bool :=
  if g.1.2 = .tc then
    if g.2 = .reg barS ∨ g.2 = .reg exitS then Finset.univ
    else if g.2 = .dma recvS ∧ gets g.1.1 ∨ g.2 = .dma sendS ∧ sends g.1.1 then {false} else ∅
  else ∅

/-- The protocol: one round. -/
def haloRd : Rounds.Schedule (GSem nD τ sig) Bool 𝕄 where
  duties g r := if r = 0 then dutiesOf g else ∅
  unitless _ := False
  amount g _ _ := if g.2 = .reg barS ∨ g.2 = .reg exitS then 1 else N
  payload g _ d :=
    if g.2 = .reg barS then barPay g.1.1 d
    else if g.2 = .dma recvS then haloPts g.1.1 (landed m g.1.1)
    else if g.2 = .dma sendS then rowPts m g.1.1
    else iprop(emp)
  amount_pos g _ _ _ := by
    split
    · exact Nat.one_pos
    · exact N_pos

instance haloRd_payload_storable (g : GSem nD τ sig) (r : ℕ) (d : Bool) :
    BI.Storable (upEmb : UEmb _ 𝕄) ((haloRd (F := F) m).payload g r d) := by
  dsimp only [haloRd]
  (repeat' split) <;> infer_instance

section Sched
variable (c : Dev nD)

theorem exit_ne_bar : (SemLoc.reg exitS : SemLoc sig) ≠ .reg barS := by decide
theorem send_ne_bar : (SemLoc.dma sendS : SemLoc sig) ≠ .reg barS := fun h => by cases h
theorem recv_ne_bar : (SemLoc.dma recvS : SemLoc sig) ≠ .reg barS := fun h => by cases h
theorem send_ne_exit : (SemLoc.dma sendS : SemLoc sig) ≠ .reg exitS := fun h => by cases h
theorem recv_ne_exit : (SemLoc.dma recvS : SemLoc sig) ≠ .reg exitS := fun h => by cases h
theorem exit_ne_recv : (SemLoc.reg exitS : SemLoc sig) ≠ .dma recvS := fun h => by cases h
theorem exit_ne_send : (SemLoc.reg exitS : SemLoc sig) ≠ .dma sendS := fun h => by cases h
theorem send_ne_recv : (SemLoc.dma sendS : SemLoc sig) ≠ .dma recvS := by decide
theorem recv_ne_send : (SemLoc.dma recvS : SemLoc sig) ≠ .dma sendS := by decide

theorem duties_bar : (haloRd m).duties (barCell c) 0 = Finset.univ := by
  dsimp only [haloRd, dutiesOf]; rw [if_pos rfl, if_pos rfl, if_pos (.inl rfl)]
theorem duties_exit : (haloRd m).duties (exitCell c) 0 = Finset.univ := by
  dsimp only [haloRd, dutiesOf]; rw [if_pos rfl, if_pos rfl, if_pos (.inr rfl)]
theorem duties_send (h : sends c) : (haloRd m).duties (sendCell c) 0 = {false} := by
  dsimp only [haloRd, dutiesOf]
  rw [if_pos rfl, if_pos rfl, if_neg (not_or.mpr ⟨send_ne_bar, send_ne_exit⟩), if_pos (.inr ⟨rfl, h⟩)]
theorem duties_recv (h : gets c) : (haloRd m).duties (recvCell c) 0 = {false} := by
  dsimp only [haloRd, dutiesOf]
  rw [if_pos rfl, if_pos rfl, if_neg (not_or.mpr ⟨recv_ne_bar, recv_ne_exit⟩), if_pos (.inl ⟨rfl, h⟩)]
theorem duties_later (g : GSem nD τ sig) : ∀ r, 0 + 1 ≤ r → (haloRd m).duties g r = ∅ :=
  fun r hr => by dsimp only [haloRd]; rw [if_neg fun h => by omega]
theorem duties_send_none (h : ¬ sends c) : ∀ r, 0 ≤ r → (haloRd m).duties (sendCell c) r = ∅ := fun r _ => by
  dsimp only [haloRd, dutiesOf]
  split
  · rw [if_pos rfl, if_neg (not_or.mpr ⟨send_ne_bar, send_ne_exit⟩), if_neg (not_or.mpr ⟨fun h' => send_ne_recv h'.1, fun h' => h h'.2⟩)]
  · rfl
theorem duties_recv_none (h : ¬ gets c) : ∀ r, 0 ≤ r → (haloRd m).duties (recvCell c) r = ∅ := fun r _ => by
  dsimp only [haloRd, dutiesOf]
  split
  · rw [if_pos rfl, if_neg (not_or.mpr ⟨recv_ne_bar, recv_ne_exit⟩), if_neg (not_or.mpr ⟨fun h' => h h'.2, fun h' => recv_ne_send h'.1⟩)]
  · rfl

theorem amount_bar (d : Bool) : (haloRd m).amount (barCell c) 0 d = 1 := by dsimp only [haloRd]; exact if_pos (.inl rfl)
theorem amount_exit (d : Bool) : (haloRd m).amount (exitCell c) 0 d = 1 := by dsimp only [haloRd]; exact if_pos (.inr rfl)
theorem amount_send (d : Bool) : (haloRd m).amount (sendCell c) 0 d = N := by
  dsimp only [haloRd]; exact if_neg (not_or.mpr ⟨send_ne_bar, send_ne_exit⟩)
theorem amount_recv (d : Bool) : (haloRd m).amount (recvCell c) 0 d = N := by
  dsimp only [haloRd]; exact if_neg (not_or.mpr ⟨recv_ne_bar, recv_ne_exit⟩)

theorem expect_bar : (haloRd m).expect (barCell c) 0 = 2 := by
  unfold Schedule.expect Schedule.amountOf
  rw [duties_bar, Finset.sum_congr rfl fun d _ => amount_bar m c d, Finset.sum_const, Finset.card_univ, Fintype.card_bool, smul_eq_mul]
theorem expect_exit : (haloRd m).expect (exitCell c) 0 = 2 := by
  unfold Schedule.expect Schedule.amountOf
  rw [duties_exit, Finset.sum_congr rfl fun d _ => amount_exit m c d, Finset.sum_const, Finset.card_univ, Fintype.card_bool, smul_eq_mul]
theorem expect_send (h : sends c) : (haloRd m).expect (sendCell c) 0 = N := by
  unfold Schedule.expect Schedule.amountOf; rw [duties_send m c h, Finset.sum_singleton, amount_send]
theorem expect_recv (h : gets c) : (haloRd m).expect (recvCell c) 0 = N := by
  unfold Schedule.expect Schedule.amountOf; rw [duties_recv m c h, Finset.sum_singleton, amount_recv]

theorem payload_bar (d : Bool) : (haloRd m).payload (barCell c) 0 d = barPay c d := by dsimp only [haloRd]; exact if_pos rfl
theorem payload_recv (d : Bool) : (haloRd m).payload (recvCell c) 0 d = haloPts c (landed m c) := by
  dsimp only [haloRd]; rw [if_neg recv_ne_bar, if_pos rfl]
theorem payload_send (d : Bool) : (haloRd m).payload (sendCell c) 0 d = rowPts m c := by
  dsimp only [haloRd]; rw [if_neg send_ne_bar, if_neg send_ne_recv, if_pos rfl]
theorem payload_exit (d : Bool) : (haloRd m).payload (exitCell c) 0 d = iprop(emp) := by
  dsimp only [haloRd]; rw [if_neg exit_ne_bar, if_neg exit_ne_recv, if_neg exit_ne_send]

/-- All that the barrier cell's round hands over: the places of both neighbours at the exit, and what the right one gives. -/
theorem rest_bar : bigSep ((haloRd m).duties (barCell c) 0 \ ∅) (fun d => (haloRd m).payload (barCell c) 0 d)
    = iprop(reached ER (exitCell (lft c)) 0 ∗ reached ER (exitCell (rgt c)) 0 ∗ give (rgt c)) := by
  rw [Finset.sdiff_empty, duties_bar, bigSep_univ_eq_bigSepL [false, true] (by decide) (by decide), bigSepL_cons_cons, bigSepL_singleton,
    payload_bar, payload_bar]
  rfl
theorem rest_send (h : sends c) : bigSep ((haloRd m).duties (sendCell c) 0 \ ∅) (fun d => (haloRd m).payload (sendCell c) 0 d) = rowPts m c := by
  rw [Finset.sdiff_empty, duties_send m c h, bigSep_singleton, payload_send]
theorem rest_recv (h : gets c) :
    bigSep ((haloRd m).duties (recvCell c) 0 \ ∅) (fun d => (haloRd m).payload (recvCell c) 0 d) = haloPts c (landed m c) := by
  rw [Finset.sdiff_empty, duties_recv m c h, bigSep_singleton, payload_recv]

end Sched

/-! ## What each core owes, and the levels -/

/-- The credit that moves from `c` to its right neighbour: one copy's, or none from the last device. -/
abbrev cr (c : Dev nD) : ℕ := if sends c then N else 0
/-- The credit that arrives at `c`. -/
abbrev crIn (c : Dev nD) : ℕ := if gets c then N else 0
theorem crIn_rgt (c : Dev nD) : crIn (rgt c) = cr c := by unfold crIn cr; simp only [gets_rgt]

/-- Owed before the last exit signal, before both, before the copy, before the second barrier signal, and at launch. -/
def O₁ (c : Dev nD) : CellTallies nD τ sig Unit := tallyAt (exitCell (rgt c)) () 1
def O₂ (c : Dev nD) : CellTallies nD τ sig Unit := O₁ c + tallyAt (exitCell (lft c)) () 1
def O₃ (c : Dev nD) : CellTallies nD τ sig Unit := O₂ c + tallyAt (recvCell (rgt c)) () (cr c)
def O₄ (c : Dev nD) : CellTallies nD τ sig Unit := O₃ c + tallyAt (barCell (rgt c)) () 1
def O₀ (c : Dev nD) : CellTallies nD τ sig Unit := O₄ c + tallyAt (barCell (lft c)) () 1

/-- Every cell of a core has the one index. -/
def L (g : GSem nD τ sig) : Finset Unit := if g.1.2 = .tc then {()} else ∅
/-- Barrier cells at 1, receive cells at 2, exit cells at 3, everything else at 0. -/
def lv (g : GSem nD τ sig) (_ : Unit) : ℕ :=
  if g.2 = .reg barS then 1 else if g.2 = .dma recvS then 2 else if g.2 = .reg exitS then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) : lv (recvCell c) () = 2 := by dsimp only [lv]; rw [if_neg recv_ne_bar, if_pos rfl]
theorem lv_exit (c : Dev nD) : lv (exitCell c) () = 3 := by dsimp only [lv]; rw [if_neg exit_ne_bar, if_neg exit_ne_recv, if_pos rfl]
theorem lv_send (c : Dev nD) : lv (sendCell c) () = 0 := by
  dsimp only [lv]; rw [if_neg send_ne_bar, if_neg send_ne_recv, if_neg send_ne_exit]

/-- All that a tally holds sits above level `b`. -/
def Above (b : ℕ) (O : CellTallies nD τ sig Unit) : Prop := ∀ g u, 0 < O g u → u ∈ L g ∧ b < lv g u

theorem Above.add {b : ℕ} {O O' : CellTallies nD τ sig Unit} (h : Above b O) (h' : Above b O') : Above b (O + O') := fun g u hg => by
  rw [Pi.add_apply, Finsupp.add_apply] at hg
  rcases Nat.add_pos_iff_pos_or_pos.mp hg with hg | hg
  · exact h g u hg
  · exact h' g u hg
theorem Above.at {b : ℕ} (c : Dev nD) (sm : SemLoc sig) (n : ℕ) (h : b < lv ((c : Thread nD τ), sm) ()) :
    Above b (tallyAt ((c : Thread nD τ), sm) () n) := fun g u hg => by
  rw [tallyAt_apply] at hg
  split at hg
  · next e => obtain ⟨rfl, rfl⟩ := e; exact ⟨by rw [L_tc]; exact Finset.mem_singleton_self _, h⟩
  · exact absurd hg (Nat.lt_irrefl 0)
theorem Above.zero (b : ℕ) : Above b 0 := fun g u hg => absurd hg (Nat.lt_irrefl 0)

theorem above_O₂ (c : Dev nD) : Above 2 (O₂ c) :=
  (Above.at _ _ _ (by rw [lv_exit]; decide)).add (Above.at _ _ _ (by rw [lv_exit]; decide))
theorem above_O₃ (c : Dev nD) : Above 1 (O₃ c) :=
  Above.add (fun g u h => ⟨(above_O₂ c g u h).1, lt_trans (by decide) (above_O₂ c g u h).2⟩) (Above.at _ _ _ (by rw [lv_recv]; decide))
theorem above_O₀ (c : Dev nD) : Above 0 (O₀ c) :=
  (Above.add (fun g u h => ⟨(above_O₃ c g u h).1, lt_trans (by decide) (above_O₃ c g u h).2⟩) (Above.at _ _ _ (by rw [lv_bar]; decide))).add
    (Above.at _ _ _ (by rw [lv_bar]; decide))

omit [FloatOps F] in
/-- A wait on a cell at or below the cut is allowed while all that is owed sits above it. -/
theorem mayWait (b : ℕ) (c : Dev nD) (sm : SemLoc sig) (hsm : lv ((c : Thread nD τ), sm) () ≤ b) {O : CellTallies nD τ sig Unit} (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => (hO g u hg).1) (fun p hp => by rw [Finset.mem_singleton.mp hp]; exact hsm) (fun g u hg => (hO g u hg).2)

end Cert.Halo

end
-- ==== Proof.Blocks.lean ====
/-
The halo kernel's body as a sequence of six blocks: the entry handshake, the conditional send, the conditional zero fill, the two
conditional waits, and the exit handshake. The printed body repeats what follows a conditional in each of its branches; this
module proves it equal to the plain sequence.
-/
module

public import proofs.«01_k».proof.Proof.Protocol

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- A program of one device without a result. -/
abbrev DevProg (F : FTy → Type) := Prog (TpuEff nD τ sig (Elt F) Λ₀ .tc) PUnit

/-- The place of the device in the ring, as the kernel computes it. -/
abbrev place (c : Dev nD) : BitVec 32 := Scalar.remsi (Scalar.divsi (Dev.word c) 1#32) 8#32
/-- The three later conditions, as the kernel computes them: the first device, any but the first, any but the last. -/
abbrev condZero (c : Dev nD) : BitVec 1 := Scalar.cmpi .ne (Scalar.extui (Scalar.cmpi .eq (place c) 0#32)) 0#32
abbrev condRecv (c : Dev nD) : BitVec 1 := Scalar.cmpi .ne (Scalar.extui (Scalar.cmpi .sgt (place c) 0#32)) 0#32
abbrev condSend (c : Dev nD) : BitVec 1 := Scalar.cmpi .ne (Scalar.extui (Scalar.cmpi .slt (place c) 7#32)) 0#32

theorem k0_cond1_iff (c : Dev nD) : k0_cond1 c = 1#1 ↔ sends c := by revert c; decide +kernel
theorem condZero_iff (c : Dev nD) : condZero c = 1#1 ↔ ¬ gets c := by revert c; decide +kernel
theorem condRecv_iff (c : Dev nD) : condRecv c = 1#1 ↔ gets c := by revert c; decide +kernel
theorem condSend_iff (c : Dev nD) : condSend c = 1#1 ↔ sends c := by revert c; decide +kernel

/-- The whole halo buffer. -/
abbrev rH : Rect S4x3x1024 := Rect.unit (s := S4x3x1024) ![0, 0, 0] S4x3x1024.size inb_S4x3x1024_S4x3x1024_0_0_0

/-- A handshake: one unit to each neighbour, then a wait for two. -/
def shake (l r : Dev nD) (s : Sem sig) : DevProg F := do
  semSignalWord l s 1#32
  semSignalWord r s 1#32
  semWaitWord s 2#32
/-- The copy of the trailing rows into the right neighbour's halo buffer, on every device but the last. -/
def sendBlk (c : Dev nD) : DevProg F :=
  if h : k0_cond1 c = 1#1 then
    Prog.lift (.enqueueDma xM (.remote (Dev.tc (⟨k0_dev3 c, k0_dev3_lt c h⟩ : Dev nD)) hM (.dma sendS)) (.dma recvS)
      (Memref.isWhole_whole cc0_stg0_0).wordExact (Memref.isWhole_whole cc0_stg1_0).wordExact ⟨⟨rfl, Or.inl rfl⟩, trivial⟩)
  else pure ⟨⟩
/-- The zero fill of the first device's halo buffer. -/
def zeroBlk (c : Dev nD) : DevProg F :=
  if h : condZero c = 1#1 then do
    let _ ← Prog.lift (.load hM rH.toLoadRect (View.loadsAt_vmem h_S4x3x1024))
    Prog.lift (.store hM rH (k0_pay1 (F := F)) Finset.univ (View.stores_vmem h_S4x3x1024 ((Memref.isWhole_whole cc0_stg1_0).storeExact_slice rfl _ packedbf16_S4x3x1024_S4x3x1024_0_0_0) (fun _ => rfl)) (.inl rfl))
  else pure ⟨⟩
/-- The wait for the halo. -/
def recvBlk (c : Dev nD) : DevProg F :=
  if h : condRecv c = 1#1 then
    Prog.lift (.waitDma2 recvS xM hM (Memref.isWhole_whole cc0_stg0_0).wordExact (Memref.isWhole_whole cc0_stg1_0).wordExact)
  else pure ⟨⟩
/-- The wait for the own copy to be read out. -/
def awaitBlk (c : Dev nD) : DevProg F :=
  if h : condSend c = 1#1 then
    Prog.lift (.waitDma2 sendS hM xM (Memref.isWhole_whole cc0_stg1_0).wordExact (Memref.isWhole_whole cc0_stg0_0).wordExact)
  else pure ⟨⟩
/-- The whole body. -/
def prog : DevProg F := do
  let c ← Prog.lift .deviceId
  shake ⟨k0_dev1 c, k0_dev1_lt c⟩ ⟨k0_dev2 c, k0_dev2_lt c⟩ barS
  sendBlk c
  zeroBlk c
  recvBlk c
  awaitBlk c
  shake ⟨k0_dev4 c, k0_dev4_lt c⟩ ⟨k0_dev5 c, k0_dev5_lt c⟩ exitS

/-- A conditional followed by a program is the conditional of both branches followed by it. -/
theorem dite_bind' {α β : Type} {E : Type → Type _} (p : Prop) [Decidable p] (f : p → Prog E α) (g : ¬ p → Prog E α) (k : α → Prog E β) :
    ((if h : p then f h else g h) >>= k) = if h : p then f h >>= k else g h >>= k := by split <;> rfl

/-- The printed body is the sequence of blocks. -/
theorem body_eq_prog :
    cc0_body (F := F) xM (Memref.isWhole_whole _) hM (Memref.isWhole_whole _) cc0_scratch0 cc0_scratch1 cc0_scoped0 = prog (F := F) := by
  simp only [cc0_body_eq_skeleton]; unfold cc0_body_skel
  simp only [k0_part1_eq_skeleton]; unfold k0_part1_skel prog shake sendBlk zeroBlk recvBlk awaitBlk
  simp only [semSignalWord, semWaitWord, Prog.lift, Prog.bind_op, Prog.bind_ret, Prog.pure_eq_ret, bind_assoc, dite_bind']
  rfl

end Cert.Halo

end
-- ==== Proof.Exchange.lean ====
/-
The run of the halo kernel's body on one core, block by block, and the body obligation of its pipeline.
-/
module

public import proofs.«01_k».proof.Proof.Blocks

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- The weakest precondition of a program of core `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Core `c` owes `O`, whatever waits it has recorded. -/
def ow (c : Dev nD) (O : CellTallies nD τ sig Unit) : sProp 𝕄 := iprop(∃ W, owes (c : Thread nD τ) O W)

/-- The send in flight: its credit where there is one, the rows themselves where there is none. -/
def sent (c : Dev nD) : sProp 𝕄 := if sends c then cred (tallyAt (sendCell c) () N) else rowPts m c
/-- The halo buffer where no copy fills it. -/
def here (c : Dev nD) : sProp 𝕄 := if gets c then iprop(emp) else haloPts c (landed m c)

variable (K : GSem nD τ sig → ℕ)

/-- The invariants core `c` uses: its own four cells', its neighbours' barrier and exit cells', its right neighbour's receive cell's. -/
def invs (c : Dev nD) : sProp 𝕄 :=
  iprop(cellInv ER (haloRd m) (K (barCell c)) (barCell c) ∗ cellInv ER (haloRd m) (K (sendCell c)) (sendCell c)
    ∗ cellInv ER (haloRd m) (K (recvCell c)) (recvCell c) ∗ cellInv ER (haloRd m) (K (exitCell c)) (exitCell c)
    ∗ cellInv ER (haloRd m) (K (barCell (lft c))) (barCell (lft c)) ∗ cellInv ER (haloRd m) (K (barCell (rgt c))) (barCell (rgt c))
    ∗ cellInv ER (haloRd m) (K (recvCell (rgt c))) (recvCell (rgt c))
    ∗ cellInv ER (haloRd m) (K (exitCell (lft c))) (exitCell (lft c)) ∗ cellInv ER (haloRd m) (K (exitCell (rgt c))) (exitCell (rgt c)))

instance invs_persistent (c : Dev nD) : BI.Persistent (invs m K c) := by unfold invs; infer_instance

/-- The tokens of the duties core `c` pays. -/
def payToks (c : Dev nD) : sProp 𝕄 :=
  iprop(dutyTok ER (barCell (lft c)) 0 true ∗ dutyTok ER (barCell (rgt c)) 0 false
    ∗ dutyTok ER (recvCell (rgt c)) 0 false ∗ dutyTok ER (sendCell c) 0 false
    ∗ dutyTok ER (exitCell (lft c)) 0 true ∗ dutyTok ER (exitCell (rgt c)) 0 false)

section Blocks
variable (c : Dev nD)

/-- A used-up cell gives its counter back at zero. -/
theorem shut (κ : ℕ) (g : GSem nD τ sig) :
    iprop(cellInv ER (haloRd m) κ g ∗ atPos ER g (0 + 1) ∅ 0) ⊢ (|={Set.univ}=> semVal g 0 : sProp 𝕄) :=
  Rounds.cell_close ER (haloRd m) (Set.mem_univ κ) (fun h => h) (R := 0 + 1) (duties_later m g)

/-- The entry handshake: one unit to each neighbour, the left one with the right to write the own halo buffer; after it core `c`
    has the right neighbour's. -/
theorem shake_in (Q : PUnit → sProp 𝕄) :
    iprop(invs m K c ∗ levAts L lv ∗ reached ER (barCell (lft c)) 0 ∗ reached ER (barCell (rgt c)) 0 ∗ reached ER (exitCell c) 0
        ∗ dutyTok ER (barCell (lft c)) 0 true ∗ dutyTok ER (barCell (rgt c)) 0 false ∗ give c
        ∗ cred (tallyAt (barCell c) () 2) ∗ atPos ER (barCell c) 0 ∅ 0 ∗ ow c (O₀ c)
        ∗ ((semVal (barCell c) 0 ∗ reached ER (exitCell (lft c)) 0 ∗ reached ER (exitCell (rgt c)) 0 ∗ give (rgt c) ∗ ow c (O₃ c)) -∗ Q ⟨⟩))
      ⊢ wpc c (shake (F := F) (lft c) (rgt c) barS) Q := by
  unfold shake invs ow wpc
  simp only [semSignalWord, semWaitWord, Prog.lift, Prog.bind_op, Prog.bind_ret]
  iintro ⟨⟨#HIb, #HIs, #HIr, #HIe, #HIbl, #HIbr, #HIrr, #HIel, #HIer⟩, #Hlev, #Hrl, #Hrr, #Hre, Htl, Htr, Hg, Hc, Hat, ⟨%W, HO⟩, Hk⟩
  iapply (Rounds.wp_signal 𝒱₀ ER (haloRd m) (c : Thread nD τ) none (dst := (lft c : Thread nD τ)) (κ := K (barCell (lft c)))
      (d := true) (by rw [duties_bar]; exact Finset.mem_univ _) ((amount_bar m (lft c) true).trans (by decide)) () (O₄ c) rfl) $$ [HO Htl Hg]
  · isplitr; · iexact HIbl
    isplitl [HO]; · iexact HO
    isplitl [Htl]; · iexact Htl
    isplitl [Hg]
    · rw [payload_bar]; unfold barPay; rw [if_pos rfl, rgt_lft]
      isplitr; · iexact Hre
      iexact Hg
    iexact Hrl
  iintro HO
  iapply (Rounds.wp_signal 𝒱₀ ER (haloRd m) (c : Thread nD τ) none (dst := (rgt c : Thread nD τ)) (κ := K (barCell (rgt c)))
      (d := false) (by rw [duties_bar]; exact Finset.mem_univ _) ((amount_bar m (rgt c) false).trans (by decide)) () (O₃ c) rfl) $$ [HO Htr]
  · isplitr; · iexact HIbr
    isplitl [HO]; · iexact HO
    isplitl [Htr]; · iexact Htr
    isplitr
    · rw [payload_bar]; unfold barPay; rw [if_neg Bool.false_ne_true, lft_rgt]
      iexact Hre
    iexact Hrr
  iintro HO
  iapply (Rounds.wp_wait_rest_token 𝒱₀ ER (haloRd m) (c : Thread nD τ) none (κ := K (barCell c))
      (wpE_semWait_eq 𝒱₀ (c : Thread nD τ) none Set.univ) (Set.mem_univ _) () (O := O₃ c) (W := W) (R := 0) (m := 0) (T := ∅)
      (by rw [expect_bar]; decide)) $$ [Hc HO Hat]
  · isplitr; · iexact HIb
    isplitl [Hc]; · iexact Hc
    isplitl [HO]; · iexact HO
    isplitr; · iapply (mayWait 1 c (.reg barS) (by rw [lv_bar]) (above_O₃ c)); iexact Hlev
    iexact Hat
  iintro ⟨HO, Hat, -, Hpay⟩
  ihave Hp := (Entails.of_eq (rest_bar m c)) $$ Hpay
  imod (shut m (K (barCell c)) (barCell c)) $$ [Hat] with Hz
  · isplitr; · iexact HIb
    iexact Hat
  rw [wp_ret]; imodintro
  iapply Hk
  icases Hp with ⟨#Hxl, #Hxr, Hgr⟩
  isplitl [Hz]; · iexact Hz
  isplitr; · iexact Hxl
  isplitr; · iexact Hxr
  isplitl [Hgr]; · iexact Hgr
  iexists _; iexact HO

/-- The exit handshake: nothing is handed over. -/
theorem shake_out (Q : PUnit → sProp 𝕄) :
    iprop(invs m K c ∗ reached ER (exitCell (lft c)) 0 ∗ reached ER (exitCell (rgt c)) 0
        ∗ dutyTok ER (exitCell (lft c)) 0 true ∗ dutyTok ER (exitCell (rgt c)) 0 false
        ∗ cred (tallyAt (exitCell c) () 2) ∗ atPos ER (exitCell c) 0 ∅ 0 ∗ ow c (O₂ c)
        ∗ ((semVal (exitCell c) 0 ∗ ow c 0) -∗ Q ⟨⟩))
      ⊢ wpc c (shake (F := F) (lft c) (rgt c) exitS) Q := by
  unfold shake invs ow wpc
  simp only [semSignalWord, semWaitWord, Prog.lift, Prog.bind_op, Prog.bind_ret]
  iintro ⟨⟨#HIb, #HIs, #HIr, #HIe, #HIbl, #HIbr, #HIrr, #HIel, #HIer⟩, #Hrl, #Hrr, Htl, Htr, Hc, Hat, ⟨%W, HO⟩, Hk⟩
  iapply (Rounds.wp_signal 𝒱₀ ER (haloRd m) (c : Thread nD τ) none (dst := (lft c : Thread nD τ)) (κ := K (exitCell (lft c)))
      (d := true) (by rw [duties_exit]; exact Finset.mem_univ _) ((amount_exit m (lft c) true).trans (by decide)) () (O₁ c) rfl) $$ [HO Htl]
  · isplitr; · iexact HIel
    isplitl [HO]; · iexact HO
    isplitl [Htl]; · iexact Htl
    isplitr; · rw [payload_exit]; iempintro
    iexact Hrl
  iintro HO
  iapply (Rounds.wp_signal 𝒱₀ ER (haloRd m) (c : Thread nD τ) none (dst := (rgt c : Thread nD τ)) (κ := K (exitCell (rgt c)))
      (d := false) (by rw [duties_exit]; exact Finset.mem_univ _) ((amount_exit m (rgt c) false).trans (by decide)) () 0
      (show O₁ c = 0 + tallyAt (exitCell (rgt c)) () 1 from (zero_add _).symm)) $$ [HO Htr]
  · isplitr; · iexact HIer
    isplitl [HO]; · iexact HO
    isplitl [Htr]; · iexact Htr
    isplitr; · rw [payload_exit]; iempintro
    iexact Hrr
  iintro HO
  iapply (Rounds.wp_wait_rest_token 𝒱₀ ER (haloRd m) (c : Thread nD τ) none (κ := K (exitCell c))
      (wpE_semWait_eq 𝒱₀ (c : Thread nD τ) none Set.univ) (Set.mem_univ _) () (O := 0) (W := W) (R := 0) (m := 0) (T := ∅)
      (by rw [expect_exit]; decide)) $$ [Hc HO Hat]
  · isplitr; · iexact HIe
    isplitl [Hc]; · iexact Hc
    isplitl [HO]; · iexact HO
    isplitr; · rw [MayWait_zero]; iempintro
    iexact Hat
  iintro ⟨HO, Hat, -, -⟩
  imod (shut m (K (exitCell c)) (exitCell c)) $$ [Hat] with Hz
  · isplitr; · iexact HIe
    iexact Hat
  rw [wp_ret]; imodintro
  iapply Hk
  isplitl [Hz]; · iexact Hz
  iexists _; iexact HO

/-- A device that sends nothing owes no copy. -/
theorem O₃_eq (h : ¬ sends c) : O₃ c = O₂ c := by
  unfold O₃ cr; rw [if_neg h]
  have : (tallyAt (recvCell (rgt c)) () 0 : CellTallies nD τ sig Unit) = 0 := by
    funext g; refine Finsupp.ext fun u => ?_; rw [tallyAt_apply]; split <;> rfl
  rw [this, add_zero]

/-- The copy of the trailing rows to `n`, the right neighbour. -/
theorem wp_copy (n : Dev nD) (hn : n = rgt c) (h : sends c)
    {hsc : (hM : Memref sig (Dev.tc n : Thread nD τ).2.kind .vmem S4x3x1024 .bf16).view.ref.isScScratch = false}
    {hsrc : (xM : Memref sig .tc .vmem S4x3x1024 .bf16).view.WordExact} {hdst : (hM : Memref sig .tc .vmem S4x3x1024 .bf16).view.WordExact}
    {hsem : DmaTarget.Typed .vmem (.dma recvS) (.remote (Dev.tc n : Thread nD τ) (hM : Memref sig .tc .vmem S4x3x1024 .bf16) (.dma sendS) hsc)}
    {α : Type} {Q : α → sProp 𝕄} {k : PUnit → Prog (TpuEff nD τ sig (Elt F) Λ₀ .tc) α}
    (fn : Buf (Elt F) ((hM : Memref sig .tc .vmem S4x3x1024 .bf16).view.loc (rgt c : Thread nD τ))) (W : Waits sig Unit) :
    iprop(cellInv ER (haloRd m) (K (sendCell c)) (sendCell c) ∗ cellInv ER (haloRd m) (K (recvCell (rgt c))) (recvCell (rgt c))
        ∗ rowPts m c ∗ haloPts (rgt c) fn ∗ owes (c : Thread nD τ) (O₃ c) W
        ∗ dutyTok ER (sendCell c) 0 false ∗ reached ER (sendCell c) 0
        ∗ dutyTok ER (recvCell (rgt c)) 0 false ∗ reached ER (recvCell (rgt c)) 0)
      ⊢ iprop(((cred (tallyAt (sendCell c) () N) ∗ owes (c : Thread nD τ) (O₂ c) W) -∗ wpc c (k ⟨⟩) Q)
          -∗ wpc c (.op (.enqueueDma xM (.remote (Dev.tc n : Thread nD τ) hM (.dma sendS) hsc) (.dma recvS) hsrc hdst hsem) k) Q) := by
  subst hn
  unfold rowPts haloPts
  exact Rounds.wp_send_pointsTo 𝒱₀ ER (haloRd m) (c : Thread nD τ) none (κ₁ := K (sendCell c)) (κ₂ := K (recvCell (rgt c)))
    (r₁ := 0) (r₂ := 0) (d₁ := false) (d₂ := false) (fd := fn)
    (by rw [duties_send m c h]; exact Finset.mem_singleton_self _)
    (by rw [duties_recv m (rgt c) ((gets_rgt c).mpr h)]; exact Finset.mem_singleton_self _)
    () () N rfl (amount_send m c false) (amount_recv m (rgt c) false) (O₂ c) (by unfold O₃ cr; rw [if_pos h]) (W := W)
    (by rw [payload_send]; exact BI.Entails.refl _)
    (by rw [payload_recv]; unfold haloPts; rw [copy_whole, landed_rgt m c h])

/-- The send block. -/
theorem send_blk (Q : PUnit → sProp 𝕄) :
    iprop(invs m K c ∗ rowPts m c ∗ give (rgt c) ∗ ow c (O₃ c) ∗ dutyTok ER (sendCell c) 0 false ∗ reached ER (sendCell c) 0
        ∗ dutyTok ER (recvCell (rgt c)) 0 false ∗ ((sent m c ∗ ow c (O₂ c)) -∗ Q ⟨⟩))
      ⊢ wpc c (sendBlk (F := F) c) Q := by
  unfold sendBlk invs ow wpc
  by_cases h : sends c
  · rw [dif_pos ((k0_cond1_iff c).mpr h)]
    unfold give sent
    rw [if_pos ((gets_rgt c).mpr h), if_pos h]
    unfold Prog.lift
    iintro ⟨⟨#HIb, #HIs, #HIr, #HIe, #HIbl, #HIbr, #HIrr, #HIel, #HIer⟩, Hx, ⟨⟨%fn, Hh⟩, #Hrv⟩, ⟨%W, HO⟩, Hts, #Hrs, Htv, Hk⟩
    iapply (wp_copy m K c _ (dev3_eq c ((k0_cond1_iff c).mpr h)) h fn W) $$ [Hx Hh HO Hts Htv]
    · isplitr; · iexact HIs
      isplitr; · iexact HIrr
      isplitl [Hx]; · iexact Hx
      isplitl [Hh]; · iexact Hh
      isplitl [HO]; · iexact HO
      isplitl [Hts]; · iexact Hts
      isplitr; · iexact Hrs
      isplitl [Htv]; · iexact Htv
      iexact Hrv
    iintro ⟨Hc, HO⟩
    unfold wpc
    rw [wp_ret]; imodintro
    iapply Hk
    isplitl [Hc]; · iexact Hc
    iexists W; iexact HO
  · rw [dif_neg (fun h' => h ((k0_cond1_iff c).mp h')), O₃_eq c h]
    unfold sent
    rw [if_neg h, Prog.pure_eq_ret, wp_ret]
    iintro ⟨-, Hx, -, HO, -, -, -, Hk⟩
    imodintro
    iapply Hk
    isplitl [Hx] <;> iassumption

omit [FloatOps F] in
theorem hz : (![0, 0, 0] : Fin 3 → Nat) = fun _ => 0 := funext fun a => by fin_cases a <;> rfl
omit [FloatOps F] in
/-- A store of the whole halo buffer leaves what it stores. -/
theorem write_halo (f w : (cc0_stg1_0 : Ref sig .tc).ty.Contents (Elt F)) :
    ((hM : Memref sig .tc .vmem S4x3x1024 .bf16).access rH : View sig .tc _ _ _).write (Elt F) f w Finset.univ = w :=
  Memref.write_access_unit_zero_univ (Elt F) cc0_stg1_0 hz _ f w

/-- The zero block. -/
theorem zero_blk (Q : PUnit → sProp 𝕄) : iprop(keep c ∗ (here m c -∗ Q ⟨⟩)) ⊢ wpc c (zeroBlk (F := F) c) Q := by
  unfold zeroBlk keep here wpc
  by_cases h : gets c
  · rw [dif_neg (fun h' => (condZero_iff c).mp h' h), if_pos h, if_pos h, Prog.pure_eq_ret, wp_ret]
    iintro ⟨He, Hk⟩; imodintro; iapply Hk; iexact He
  · rw [dif_pos ((condZero_iff c).mpr h), if_neg h, if_neg h]
    unfold landed
    rw [if_neg h]
    simp only [Prog.lift, Prog.bind_op, Prog.bind_ret, haloPts_eq]
    iintro ⟨⟨%f, Hh⟩, Hk⟩
    iapply (wp_load 𝒱₀ (c : Thread nD τ) none Set.univ (m := hM) (Finset.subset_univ _)) $$ Hh; iintro Hh
    iapply (wp_store 𝒱₀ (c : Thread nD τ) none Set.univ (m := hM) (r := rH) (Mk := Finset.univ) (Finset.subset_univ _)) $$ Hh; iintro Hh
    rw [write_halo, wp_ret]; imodintro
    iapply Hk; iexact Hh

/-- The wait for the halo. -/
theorem recv_blk (Q : PUnit → sProp 𝕄) :
    iprop(invs m K c ∗ levAts L lv ∗ here m c ∗ ow c (O₂ c) ∗ cred (tallyAt (recvCell c) () (crIn c)) ∗ atPos ER (recvCell c) 0 ∅ 0
        ∗ ((haloPts c (landed m c) ∗ ow c (O₂ c) ∗ semVal (recvCell c) 0) -∗ Q ⟨⟩))
      ⊢ wpc c (recvBlk (F := F) c) Q := by
  unfold recvBlk invs here ow wpc
  by_cases h : gets c
  · rw [dif_pos ((condRecv_iff c).mpr h)]
    unfold crIn Prog.lift
    rw [if_pos h, if_pos h]
    iintro ⟨⟨#HIb, #HIs, #HIr, #HIe, #HIbl, #HIbr, #HIrr, #HIel, #HIer⟩, #Hlev, -, ⟨%W, HO⟩, Hc, Hat, Hk⟩
    iapply (Rounds.wp_wait_rest_token 𝒱₀ ER (haloRd m) (c : Thread nD τ) none (κ := K (recvCell c))
        (wpE_waitDma2_eq 𝒱₀ (c : Thread nD τ) none Set.univ) (Set.mem_univ _) () (O := O₂ c) (W := W) (R := 0) (m := 0) (T := ∅)
        (by rw [Nat.zero_add, expect_recv m c h])) $$ [Hc HO Hat]
    · isplitr; · iexact HIr
      isplitl [Hc]; · iexact Hc
      isplitl [HO]; · iexact HO
      isplitr; · iapply (mayWait 2 c (.dma recvS) (by rw [lv_recv]) (above_O₂ c)); iexact Hlev
      iexact Hat
    iintro ⟨HO, Hat, -, Hpay⟩
    ihave Hh := (Entails.of_eq (rest_recv m c h)) $$ Hpay
    imod (shut m (K (recvCell c)) (recvCell c)) $$ [Hat] with Hz
    · isplitr; · iexact HIr
      iexact Hat
    rw [wp_ret]; imodintro
    iapply Hk
    isplitl [Hh]; · iexact Hh
    isplitl [HO]; · iexists _; iexact HO
    iexact Hz
  · rw [dif_neg (fun h' => h ((condRecv_iff c).mp h')), if_neg h, Prog.pure_eq_ret, wp_ret]
    iintro ⟨⟨#HIb, #HIs, #HIr, #HIe, #HIbl, #HIbr, #HIrr, #HIel, #HIer⟩, -, Hh, HO, -, Hat, Hk⟩
    imod (Rounds.cell_close ER (haloRd m) (Set.mem_univ (K (recvCell c))) (fun h => h) (R := 0) (duties_recv_none m c h)) $$ [Hat] with Hz
    · isplitr; · iexact HIr
      iexact Hat
    imodintro
    iapply Hk
    isplitl [Hh]; · iexact Hh
    isplitl [HO]; · iexact HO
    iexact Hz

/-- The wait for the own copy to be read out. -/
theorem await_blk (Q : PUnit → sProp 𝕄) :
    iprop(invs m K c ∗ levAts L lv ∗ sent m c ∗ ow c (O₂ c) ∗ atPos ER (sendCell c) 0 ∅ 0
        ∗ ((rowPts m c ∗ ow c (O₂ c) ∗ semVal (sendCell c) 0) -∗ Q ⟨⟩))
      ⊢ wpc c (awaitBlk (F := F) c) Q := by
  unfold awaitBlk invs sent ow wpc
  by_cases h : sends c
  · rw [dif_pos ((condSend_iff c).mpr h), if_pos h]
    unfold Prog.lift
    iintro ⟨⟨#HIb, #HIs, #HIr, #HIe, #HIbl, #HIbr, #HIrr, #HIel, #HIer⟩, #Hlev, Hc, ⟨%W, HO⟩, Hat, Hk⟩
    iapply (Rounds.wp_wait_rest_token 𝒱₀ ER (haloRd m) (c : Thread nD τ) none (κ := K (sendCell c))
        (wpE_waitDma2_eq 𝒱₀ (c : Thread nD τ) none Set.univ) (Set.mem_univ _) () (O := O₂ c) (W := W) (R := 0) (m := 0) (T := ∅)
        (by rw [Nat.zero_add, expect_send m c h])) $$ [Hc HO Hat]
    · isplitr; · iexact HIs
      isplitl [Hc]; · iexact Hc
      isplitl [HO]; · iexact HO
      isplitr; · iapply (mayWait 2 c (.dma sendS) (by rw [lv_send]; decide) (above_O₂ c)); iexact Hlev
      iexact Hat
    iintro ⟨HO, Hat, -, Hpay⟩
    ihave Hh := (Entails.of_eq (rest_send m c h)) $$ Hpay
    imod (shut m (K (sendCell c)) (sendCell c)) $$ [Hat] with Hz
    · isplitr; · iexact HIs
      iexact Hat
    rw [wp_ret]; imodintro
    iapply Hk
    isplitl [Hh]; · iexact Hh
    isplitl [HO]; · iexists _; iexact HO
    iexact Hz
  · rw [dif_neg (fun h' => h ((condSend_iff c).mp h')), if_neg h, Prog.pure_eq_ret, wp_ret]
    iintro ⟨⟨#HIb, #HIs, #HIr, #HIe, #HIbl, #HIbr, #HIrr, #HIel, #HIer⟩, -, Hh, HO, Hat, Hk⟩
    imod (Rounds.cell_close ER (haloRd m) (Set.mem_univ (K (sendCell c))) (fun h => h) (R := 0) (duties_send_none m c h)) $$ [Hat] with Hz
    · isplitr; · iexact HIs
      iexact Hat
    imodintro
    iapply Hk
    isplitl [Hh]; · iexact Hh
    isplitl [HO]; · iexact HO
    iexact Hz

end Blocks

/-! ## The body -/

/-- What core `c` brings into the body, its cells opened: positions, first rounds reached, the tokens it pays with. -/
def opened (c : Dev nD) : sProp 𝕄 :=
  iprop(invs m K c
    ∗ (atPos ER (barCell c) 0 ∅ 0 ∗ atPos ER (sendCell c) 0 ∅ 0 ∗ atPos ER (recvCell c) 0 ∅ 0 ∗ atPos ER (exitCell c) 0 ∅ 0)
    ∗ (reached ER (barCell (lft c)) 0 ∗ reached ER (barCell (rgt c)) 0 ∗ reached ER (sendCell c) 0 ∗ reached ER (recvCell c) 0
        ∗ reached ER (exitCell c) 0)
    ∗ payToks c)

/-- The credits core `c` waits with. -/
def creds (c : Dev nD) : sProp 𝕄 :=
  iprop(cred (tallyAt (barCell c) () 2) ∗ cred (tallyAt (recvCell c) () (crIn c)) ∗ cred (tallyAt (exitCell c) () 2))

/-- The counters of core `c`'s four cells, at zero. -/
def zeros (c : Dev nD) : sProp 𝕄 :=
  iprop(semVal (barCell c) 0 ∗ semVal (sendCell c) 0 ∗ semVal (recvCell c) 0 ∗ semVal (exitCell c) 0)

set_option maxHeartbeats 800000 in
/-- The body's run: from the opened cells, the credits, the staged rows and a halo buffer of any content, to the halo landed and
    all counters at zero, nothing owed. -/
theorem body_run (c : Dev nD) (Q : PUnit → sProp 𝕄) :
    iprop(opened m K c ∗ creds c ∗ levAts L lv ∗ ow c (O₀ c) ∗ rowPts m c ∗ (∃ f, haloPts c f)
        ∗ ((zeros c ∗ ow c 0 ∗ rowPts m c ∗ haloPts c (landed m c)) -∗ Q ⟨⟩))
      ⊢ wpc c (cc0_body (F := F) xM (Memref.isWhole_whole _) hM (Memref.isWhole_whole _) cc0_scratch0 cc0_scratch1 cc0_scoped0) Q := by
  rw [body_eq_prog]
  unfold prog
  simp only [Prog.lift, Prog.bind_op, Prog.bind_ret, wp_deviceId, wp_bind, dev1_eq c, dev2_eq c, dev4_eq c, dev5_eq c]
  unfold opened payToks creds zeros
  iintro ⟨⟨#HI, ⟨Hab, Has, Har, Hae⟩, ⟨#Hrl, #Hrr, #Hrs, #Hrv, #Hre⟩, ⟨Hbl, Hbr, Hrt, Hst, Hel, Her⟩⟩, ⟨Hcb, Hcr, Hce⟩, #Hlev, HO, Hx, Hh, Hk⟩
  ihave Hsplit : iprop(give c ∗ keep c) $$ [Hh]
  · unfold give keep
    by_cases h : gets c
    · rw [if_pos h, if_pos h]
      isplitl [Hh]
      · isplitl [Hh]; · iexact Hh
        iexact Hrv
      iempintro
    · rw [if_neg h, if_neg h]
      isplitr; · iempintro
      iexact Hh
  icases Hsplit with ⟨Hg, Hkp⟩
  iapply (shake_in m K c _)
  isplitr; · iexact HI
  isplitr; · iexact Hlev
  isplitr; · iexact Hrl
  isplitr; · iexact Hrr
  isplitr; · iexact Hre
  isplitl [Hbl]; · iexact Hbl
  isplitl [Hbr]; · iexact Hbr
  isplitl [Hg]; · iexact Hg
  isplitl [Hcb]; · iexact Hcb
  isplitl [Hab]; · iexact Hab
  isplitl [HO]; · iexact HO
  iintro ⟨Hzb, #Hxl, #Hxr, Hgr, HO⟩
  iapply (send_blk m K c _)
  isplitr; · iexact HI
  isplitl [Hx]; · iexact Hx
  isplitl [Hgr]; · iexact Hgr
  isplitl [HO]; · iexact HO
  isplitl [Hst]; · iexact Hst
  isplitr; · iexact Hrs
  isplitl [Hrt]; · iexact Hrt
  iintro ⟨Hsent, HO⟩
  iapply (zero_blk m c _)
  isplitl [Hkp]; · iexact Hkp
  iintro Hhere
  iapply (recv_blk m K c _)
  isplitr; · iexact HI
  isplitr; · iexact Hlev
  isplitl [Hhere]; · iexact Hhere
  isplitl [HO]; · iexact HO
  isplitl [Hcr]; · iexact Hcr
  isplitl [Har]; · iexact Har
  iintro ⟨Hh, HO, Hzr⟩
  iapply (await_blk m K c _)
  isplitr; · iexact HI
  isplitr; · iexact Hlev
  isplitl [Hsent]; · iexact Hsent
  isplitl [HO]; · iexact HO
  isplitl [Has]; · iexact Has
  iintro ⟨Hx, HO, Hzs⟩
  iapply (shake_out m K c _)
  isplitr; · iexact HI
  isplitr; · iexact Hxl
  isplitr; · iexact Hxr
  isplitl [Hel]; · iexact Hel
  isplitl [Her]; · iexact Her
  isplitl [Hce]; · iexact Hce
  isplitl [Hae]; · iexact Hae
  isplitl [HO]; · iexact HO
  iintro ⟨Hze, HO⟩
  iapply Hk
  isplitl [Hzb Hzs Hzr Hze]
  · isplitl [Hzb]; · iexact Hzb
    isplitl [Hzs]; · iexact Hzs
    isplitl [Hzr] <;> iassumption
  isplitl [HO]; · iexact HO
  isplitl [Hx] <;> iassumption

end Cert.Halo

end
-- ==== Proof.Region0.lean ====
/-
Custom call 0, the halo exchange, as a region of the program: its proof data, its body obligation and its segment record.
-/
module

public import proofs.«01_k».proof.Proof.Exchange
public import Idealize.ShloMosaic.Lib.Pipeline.RegionArraysS
public import Idealize.ShloMosaic.Lib.Pipeline.ValueKit

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## Proof data -/

/-- The scoped buffers this call does not stage, and the generator register. -/
def spare0 (c : Dev nD) : sProp 𝕄 := iprop(Pipeline.scopedRest (Val := Elt F) spec0 c ∗ ∃ r, prngReg c r)

/-- What enters the body besides: the cells opened, the credits, the level facts. -/
def enter (c : Dev nD) : sProp 𝕄 := iprop((∃ K, opened m K c) ∗ creds c ∗ levAts L lv)

/-- The proof data of the halo exchange on core `c`: the rows staged and left as they are, the halo landed; owing `O₀` before the
    one point, nothing after. -/
def dat0 (c : Dev nD) : Dat τ (Elt F) Unit ℕ UU ℕ cfg0 c where
  A w := match w with
    | ⟨0, _⟩ => V1 m c main_v1
    | ⟨1, _⟩ => V1 m c main_v2
  after w _ := match w with
    | ⟨0, _⟩ => xstg m c
    | ⟨1, _⟩ => landed m c
  Φ t := match t with
    | ⟨0, _⟩ => iprop(spare0 c ∗ enter m c)
    | ⟨_ + 1, _⟩ => iprop(spare0 c ∗ zeros c)
  q _ := fullShare
  owed t := match t with
    | ⟨0, _⟩ => O₀ c
    | ⟨_ + 1, _⟩ => 0

/-- What is owed at a point, from the tally the proof data names and from it back. -/
theorem owesAt_intro {cfg : Pipeline.Cfg sig Λ₀} {c : Dev nD} (dat : Dat τ (Elt F) Unit ℕ UU ℕ cfg c) (t : Fin (cfg.N + 1))
    (O : CellTallies nD τ sig Unit) (h0 : dat.owed t = O) (hr : dat.recorded t = Set.univ := by rfl) :
    (ow c O : sProp 𝕄) ⊢ (dat.owesAt () t : sProp 𝕄) := by
  unfold Dat.owesAt Pipeline.owesWithin Dat.bound ow; rw [h0, hr]
  iintro ⟨%W, HO⟩; iexists W; isplitr; · ipureintro; exact fun _ _ => Or.inl trivial
  iexact HO
theorem owesAt_elim {cfg : Pipeline.Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ (ow c O : sProp 𝕄) := by
  unfold Dat.owesAt Pipeline.owesWithin ow; rw [h0]
  iintro ⟨%W, -, HO⟩; iexists W; iexact HO

omit [FloatOps F] in
/-- Owning a whole staging buffer at `X` is its points-to at `X`. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer of core `c` at `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Before the one point. -/
def bodyPre (c : Dev nD) : sProp 𝕄 :=
  iprop((spare0 c ∗ enter m c) ∗ (dat0 m c).owesAt () t0_0.castSucc
    ∗ (∃ d, stg c cc0_stg0_0 ((dat0 m c).before (0 : Fin 2) t0_0 d))
    ∗ (∃ d, stg c cc0_stg1_0 ((dat0 m c).before (1 : Fin 2) t0_0 d)))
/-- After it. -/
def bodyPost (c : Dev nD) : sProp 𝕄 :=
  iprop((spare0 c ∗ zeros c) ∗ (dat0 m c).owesAt () t0_0.succ ∗ stg c cc0_stg0_0 (xstg m c) ∗ stg c cc0_stg1_0 (landed m c))

/-- The body obligation of the halo exchange. -/
theorem body0 (c : Dev nD) : BodyObligation (dat0 (F := F) m c) (defs₀ (F := F)) 𝒱₀ () Set.univ := fun t => by
  rw [fin_N0 t]
  rw [bigSep_W0, bigSep_W0]
  simp only [owns_whole_eq]
  show bodyPre m c ⊢ wpc c (cc0_body (F := F) xM (Memref.isWhole_whole _) hM (Memref.isWhole_whole _) cc0_scratch0 cc0_scratch1 cc0_scoped0)
    (fun _ => bodyPost m c)
  unfold bodyPre enter
  iintro ⟨⟨Hsp, ⟨%K, Hop⟩, Hcr, Hlev⟩, HO, ⟨%d0, %g0, %hg0, Hx⟩, ⟨%d1, %g1, -, Hh⟩⟩
  have hx : g0 = xstg m c := by rw [hg0]; unfold Dat.before; rw [if_pos (fetch0_0 t0_0)]; rfl
  subst hx
  iapply (body_run m K c _)
  isplitl [Hop]; · iexact Hop
  isplitl [Hcr]; · iexact Hcr
  isplitl [Hlev]; · iexact Hlev
  isplitl [HO]; · iapply (owesAt_elim (dat0 m c) t0_0.castSucc (O₀ c) rfl); iexact HO
  isplitl [Hx]; · rw [rowPts_eq]; iexact Hx
  isplitl [Hh]; · iexists g1; rw [haloPts_eq]; iexact Hh
  iintro ⟨Hz, HO, Hx, Hh⟩
  unfold bodyPost
  isplitl [Hsp Hz]; · isplitl [Hsp] <;> iassumption
  isplitl [HO]; · iapply (owesAt_intro (dat0 m c) t0_0.succ 0 rfl); iexact HO
  isplitl [Hx]
  · iexists (xstg m c); isplitr; · (ipureintro; rfl)
    iapply (show rowPts m c ⊢ _ from Entails.of_eq (rowPts_eq m c)); iexact Hx
  iexists (landed m c); isplitr; · (ipureintro; rfl)
  iapply (show haloPts c (landed m c) ⊢ _ from Entails.of_eq (haloPts_eq c _)); iexact Hh

/-! ## What the launch keeps for the exchange, and its opening -/

/-- The ghost state of core `c` from launch to the exchange. -/
def ghost (K : GSem nD τ sig → ℕ) (c : Dev nD) : sProp 𝕄 :=
  iprop(invs m K c ∗ (atPos ER (barCell c) 0 ∅ 0 ∗ openTok ER (sendCell c) ∗ openTok ER (recvCell c) ∗ openTok ER (exitCell c))
    ∗ (reached ER (barCell (lft c)) 0 ∗ reached ER (barCell (rgt c)) 0) ∗ payToks c)

/-- What core `c` brings to the exchange. -/
def Tk (c : Dev nD) : sProp 𝕄 := iprop((∃ K, ghost m K c) ∗ creds c)

/-- Three pieces indexed by position, written out. -/
theorem bigSep_three (P : Fin 3 → sProp 𝕄) : (BI.bigSep Finset.univ P : sProp 𝕄) = iprop(P 0 ∗ P 1 ∗ P 2) :=
  bigSep_univ_eq_bigSepL [0, 1, 2] (by decide) (by decide) P
theorem ownSems0_eq (c : Dev nD) :
    (Pipeline.ownSems0 osem0 c : sProp 𝕄) = iprop(semVal (sendCell c) 0 ∗ semVal (recvCell c) 0 ∗ semVal (exitCell c) 0) := by
  unfold Pipeline.ownSems0
  rw [bigSep_three]

/-- The three scoped cells open at the region's entry. -/
theorem open0 (c : Dev nD) : iprop(Tk m c ∗ Pipeline.ownSems0 osem0 c ∗ levAts L lv) ⊢ (|={Set.univ}=> enter m c : sProp 𝕄) := by
  rw [ownSems0_eq]
  unfold Tk enter ghost
  iintro ⟨⟨⟨%K, #HI, ⟨Hb, Hos, Hor, Hoe⟩, ⟨#Hrl, #Hrr⟩, Htk⟩, Hcr⟩, ⟨Hs0, Hr0, He0⟩, #Hlev⟩
  ihave HI' := (show invs m K c ⊢ iprop(cellInv ER (haloRd m) (K (sendCell c)) (sendCell c) ∗ cellInv ER (haloRd m) (K (recvCell c)) (recvCell c)
      ∗ cellInv ER (haloRd m) (K (exitCell c)) (exitCell c)) from by
    unfold invs
    iintro ⟨-, #H1, #H2, #H3, -⟩
    isplitr; · iexact H1
    isplitr; · iexact H2
    iexact H3) $$ [HI]
  · iexact HI
  icases HI' with ⟨#HIs, #HIr, #HIe⟩
  imod (Rounds.cell_open ER (haloRd m) (g := sendCell c) (Set.mem_univ (K (sendCell c)))) $$ [Hos Hs0] with ⟨Has, #Hrs⟩
  · isplitr; · iexact HIs
    isplitl [Hos] <;> iassumption
  imod (Rounds.cell_open ER (haloRd m) (g := recvCell c) (Set.mem_univ (K (recvCell c)))) $$ [Hor Hr0] with ⟨Har, #Hrv⟩
  · isplitr; · iexact HIr
    isplitl [Hor] <;> iassumption
  imod (Rounds.cell_open ER (haloRd m) (g := exitCell c) (Set.mem_univ (K (exitCell c)))) $$ [Hoe He0] with ⟨Hae, #Hre⟩
  · isplitr; · iexact HIe
    isplitl [Hoe] <;> iassumption
  imodintro
  isplitl [Hb Has Har Hae Htk]
  · iexists K; unfold opened
    isplitr; · iexact HI
    isplitl [Hb Has Har Hae]
    · isplitl [Hb]; · iexact Hb
      isplitl [Has]; · iexact Has
      isplitl [Har] <;> iassumption
    isplitr
    · isplitr; · iexact Hrl
      isplitr; · iexact Hrr
      isplitr; · iexact Hrs
      isplitr; · iexact Hrv
      iexact Hre
    iexact Htk
  isplitl [Hcr]; · iexact Hcr
  iexact Hlev

/-! ## The record -/

/-- Core `c`'s buffers after the exchange. -/
def W2 (c : Dev nD) : Valuation τ sig (Elt F) := Pipeline.afterRegion (dat0 m c) (V1 m c)

/-- The exchange leaves the landed halo in its result. -/
theorem W2_v2 (c : Dev nD) : W2 m c main_v2 = landed m c := by
  unfold W2
  refine (Pipeline.afterRegion_arr (dat0 m c) (V1 m c) launch0.win.arr_inj (1 : Fin 2)).trans ?_
  refine (dat0 m c).arrAt_eq_of_after_last (1 : Fin 2) t0_0 (by decide +kernel) _ fun j => ?_
  blk_simp
  rfl
/-- It changes nothing else. -/
theorem W2_of (c : Dev nD) (r : Ref sig .tc) (h : r ≠ main_v2) : W2 m c r = V1 m c r :=
  Pipeline.afterRegion_keeps (dat0 m c) (V1 m c) launch0.win.arr_inj
    (fun w => by fin_cases w <;> rfl) r (fun w => by
      fin_cases w
      · exact fun _ => rfl
      · exact fun e => absurd e.symm h)

/-- The halo exchange holds its windows whole. -/
theorem share0 (c : Dev nD) (w : Fin cfg0.W) : (dat0 m c).share w = fullShare := by unfold Dat.share; split <;> rfl

/-- The staging cells of either call sit at the lowest level. -/
theorem lv_dma (c : Dev nD) (s : DmaSem sig) (h : s ≠ recvS) : lv ((c : Thread nD τ), .dma s) () = 0 := by
  dsimp only [lv]; rw [if_neg (by simp), if_neg (fun e => h (by simpa using e)), if_neg (by simp)]
theorem stage0_ne : ∀ (w : Fin 2) (s : Fin (spec0 w).nbuf), (spec0 w).sem s ≠ recvS := by decide
theorem stage1_ne : ∀ (w : Fin 4) (s : Fin (spec1 w).nbuf), (spec1 w).sem s ≠ recvS := by decide

end Cert.Halo

end
-- ==== Proof.Region1.lean ====
/-
Custom call 1, the convolution and the activation, as a region of the program: what its body computes at a grid point (one batch
row), its proof data and its body obligation. The call reads what the halo exchange left (`W2`).
-/
module

public import proofs.«01_k».proof.Proof.Region0
public import Idealize.ShloMosaic.Lib.Exec
public import Idealize.ShloMosaic.Lib.Pipeline.FrameBody

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## One grid point -/

/-- The whole of a batch row's block, the whole of the taps, and batch row `i`'s part of the halo. -/
abbrev rX : Rect S1x2048x1024 := Rect.unit (s := S1x2048x1024) ![0, 0, 0] S1x2048x1024.size inb_S1x2048x1024_S1x2048x1024_0_0_0
abbrev rK : Rect S4x1024 := Rect.unit (s := S4x1024) ![0, 0] S4x1024.size inb_S4x1024_S4x1024_0_0
abbrev rB (i : grid1.Coords) : Rect S4x3x1024 := Rect.unit (s := S4x3x1024) (k1_off1 i) S1x3x1024.size (k1_off1_inb i)

/-- What the body stores at grid coordinates `i`, from the batch row `x`, the taps `k` and the halo `h`. -/
def conv (i : grid1.Coords) (x : Vec F S1x2048x1024 .bf16) (k : Vec F S4x1024 .bf16) (h : Vec F S4x3x1024 .bf16) : Vec F S1x2048x1024 .bf16 :=
  k1_pay1 (View.ld x rX) (View.ld k rK) (View.ld h (rB i))

/-- The body's triple, on any whole staging buffers: the three inputs are left as they are, the output holds `conv` of them. -/
theorem conv_run (c : Dev nD) (i : grid1.Coords)
    (a1 : Memref sig .tc .vmem S1x2048x1024 .bf16) (h1 : a1.IsWhole) (a2 : Memref sig .tc .vmem S4x1024 .bf16) (h2 : a2.IsWhole)
    (a3 : Memref sig .tc .vmem S4x3x1024 .bf16) (h3 : a3.IsWhole) (a4 : Memref sig .tc .vmem S1x2048x1024 .bf16) (h4 : a4.IsWhole)
    (x : Vec F S1x2048x1024 .bf16) (k : Vec F S4x1024 .bf16) (h : Vec F S4x3x1024 .bf16) (Q : PUnit → sProp 𝕄) :
    iprop(owns (c : Thread nD τ) a1 fullShare x ∗ owns (c : Thread nD τ) a2 fullShare k ∗ owns (c : Thread nD τ) a3 fullShare h
        ∗ (∃ d, owns (c : Thread nD τ) a4 fullShare d)
        ∗ ((owns (c : Thread nD τ) a1 fullShare x ∗ owns (c : Thread nD τ) a2 fullShare k ∗ owns (c : Thread nD τ) a3 fullShare h
            ∗ owns (c : Thread nD τ) a4 fullShare (conv i x k h)) -∗ Q ⟨⟩))
      ⊢ wpc c (cc1_body (F := F) i a1 h1 a2 h2 a3 h3 a4 h4) Q := by
  unfold wpc owns
  rw [cc1_body_eq_skeleton]; unfold cc1_body_skel
  iintro ⟨⟨%f1, %e1, H1⟩, ⟨%f2, %e2, H2⟩, ⟨%f3, %e3, H3⟩, ⟨%d4, %f4, -, H4⟩, Hk⟩
  subst e1 e2 e3
  sl_exec
  sl_step
  iapply Hk
  isplitl [H1]; · (iexists f1; isplitr; · (ipureintro; rfl)); iexact H1
  isplitl [H2]; · (iexists f2; isplitr; · (ipureintro; rfl)); iexact H2
  isplitl [H3]; · (iexists f3; isplitr; · (ipureintro; rfl)); iexact H3
  iexists _; isplitr
  swap; · iexact H4
  ipureintro
  refine (View.read_writes_eq_canon (L := [⟨rX, conv i (a1.view.read (Elt F) f1) (a2.view.read (Elt F) f2) (a3.view.read (Elt F) f3)⟩]) _ _ (fun y => View.cover_of_tiled _ S1x2048x1024.size (by rfl) y)).trans ?_
  exact View.canon_cons_unit_zero hz _ _ _

/-! ## Proof data -/

/-- Window `w`'s block at point `t`, of the arrays as the call finds them. -/
def blk1 (c : Dev nD) (w : Fin cfg1.W) (t : Fin cfg1.N) : ((cfg1.win w).xblock (cfg1.grid.coords t)).Idx → Elt F (cfg1.win w).elt :=
  ((cfg1.win w).blk t).view.read (Elt F) (W2 m c (Proc.devRef .tc (Pipeline.arrRef spec1 w)))

/-- What the body leaves in the output window at point `t`. -/
def row1 (c : Dev nD) (t : Fin cfg1.N) : Vec F S1x2048x1024 .bf16 :=
  conv (grid1.coords t) (blk1 m c 0 t) (blk1 m c 1 t) (blk1 m c 2 t)

/-- The proof data of the convolution on core `c`: inputs left as they are, the output at `row1`; nothing owed. -/
def dat1 (c : Dev nD) : Dat τ (Elt F) Unit ℕ UU ℕ cfg1 c where
  A w := W2 m c (Proc.devRef .tc (Pipeline.arrRef spec1 w))
  after w t := match w with
    | ⟨0, _⟩ => blk1 m c 0 t
    | ⟨1, _⟩ => blk1 m c 1 t
    | ⟨2, _⟩ => blk1 m c 2 t
    | ⟨3, _⟩ => row1 m c t
  Φ _ := Pipeline.scopedRest spec1 c
  q _ := fullShare
  owed _ := 0

theorem dat1_A (c : Dev nD) (w : Fin cfg1.W) : (dat1 m c).A w = W2 m c (Proc.devRef .tc (Pipeline.arrRef spec1 w)) := by dsimp only [dat1]
theorem after1_0 (c : Dev nD) (t : Fin cfg1.N) : (dat1 m c).after 0 t = blk1 m c 0 t := by dsimp only [dat1]
theorem after1_1 (c : Dev nD) (t : Fin cfg1.N) : (dat1 m c).after 1 t = blk1 m c 1 t := by dsimp only [dat1]
theorem after1_2 (c : Dev nD) (t : Fin cfg1.N) : (dat1 m c).after 2 t = blk1 m c 2 t := by dsimp only [dat1]
theorem after1_3 (c : Dev nD) (t : Fin cfg1.N) : (dat1 m c).after 3 t = row1 m c t := by dsimp only [dat1]

/-- Each input's staging buffer holds its block when the body runs, fetched at this point or kept from an earlier one. -/
theorem before1_0 (c : Dev nD) (t : Fin cfg1.N) (d) : (dat1 m c).before 0 t d = blk1 m c 0 t :=
  ((dat1 m c).before_in_eq_fetched 0 rfl (fun _ => rfl) (fun _ _ _ => rfl) (fun _ => by rw [after1_0]; unfold Dat.blockOf blk1; rw [dat1_A]) t d).trans
    (by unfold Dat.fetched Dat.blockOf blk1; rw [dat1_A]; rfl)
theorem before1_1 (c : Dev nD) (t : Fin cfg1.N) (d) : (dat1 m c).before 1 t d = blk1 m c 1 t :=
  ((dat1 m c).before_in_eq_fetched 1 rfl (fun _ => rfl) (fun _ _ _ => rfl) (fun _ => by rw [after1_1]; unfold Dat.blockOf blk1; rw [dat1_A]) t d).trans
    (by unfold Dat.fetched Dat.blockOf blk1; rw [dat1_A]; rfl)
theorem before1_2 (c : Dev nD) (t : Fin cfg1.N) (d) : (dat1 m c).before 2 t d = blk1 m c 2 t :=
  ((dat1 m c).before_in_eq_fetched 2 rfl (fun _ => rfl) (fun _ _ _ => rfl) (fun _ => by rw [after1_2]; unfold Dat.blockOf blk1; rw [dat1_A]) t d).trans
    (by unfold Dat.fetched Dat.blockOf blk1; rw [dat1_A]; rfl)

/-- Around the body at point `t`. -/
def rowPre (c : Dev nD) (t : Fin cfg1.N) : sProp 𝕄 :=
  iprop((dat1 m c).Φ t.castSucc ∗ (dat1 m c).owesAt () t.castSucc
    ∗ (∃ d, owns (c : Thread nD τ) (st1_0 t) fullShare ((dat1 m c).before 0 t d))
    ∗ (∃ d, owns (c : Thread nD τ) (st1_1 t) fullShare ((dat1 m c).before 1 t d))
    ∗ (∃ d, owns (c : Thread nD τ) (st1_2 t) fullShare ((dat1 m c).before 2 t d))
    ∗ (∃ d, owns (c : Thread nD τ) (st1_3 t) fullShare ((dat1 m c).before 3 t d)))
def rowPost (c : Dev nD) (t : Fin cfg1.N) : sProp 𝕄 :=
  iprop((dat1 m c).Φ t.succ ∗ (dat1 m c).owesAt () t.succ
    ∗ owns (c : Thread nD τ) (st1_0 t) fullShare ((dat1 m c).after 0 t)
    ∗ owns (c : Thread nD τ) (st1_1 t) fullShare ((dat1 m c).after 1 t)
    ∗ owns (c : Thread nD τ) (st1_2 t) fullShare ((dat1 m c).after 2 t)
    ∗ owns (c : Thread nD τ) (st1_3 t) fullShare ((dat1 m c).after 3 t))

theorem row_run (c : Dev nD) (t : Fin cfg1.N) : rowPre m c t ⊢ wpc c (bodyAt1 (F := F) t) (fun _ => rowPost m c t) := by
  unfold rowPre rowPost bodyAt1
  simp only [before1_0, before1_1, before1_2]
  rw [show (dat1 m c).Φ t.succ = (dat1 m c).Φ t.castSucc from rfl,
    show (dat1 m c).owesAt () t.succ = (dat1 m c).owesAt () t.castSucc from rfl, after1_0, after1_1, after1_2, after1_3]
  iintro ⟨HΦ, HO, ⟨%d0, H0⟩, ⟨%d1, H1⟩, ⟨%d2, H2⟩, ⟨%d3, H3⟩⟩
  iapply (conv_run c (grid1.coords t) _ _ _ _ _ _ _ _ (blk1 m c 0 t) (blk1 m c 1 t) (blk1 m c 2 t) _)
  isplitl [H0]; · iexact H0
  isplitl [H1]; · iexact H1
  isplitl [H2]; · iexact H2
  isplitl [H3]; · (iexists _; iexact H3)
  iintro ⟨H0, H1, H2, H3⟩
  isplitl [HΦ]; · iexact HΦ
  isplitl [HO]; · iexact HO
  isplitl [H0]; · iexact H0
  isplitl [H1]; · iexact H1
  isplitl [H2]; · iexact H2
  unfold row1; iexact H3

theorem row_at (t : Fin cfg1.N) : defs₀ (F := F) .tc cfg1.body (cfg1.bodyArgs t (cfg1.slots t)) = bodyAt1 t := by
  unfold defs₀; rw [Defs.onTc_tc]

/-- The body obligation of the convolution. -/
theorem body1 (c : Dev nD) : BodyObligation (dat1 (F := F) m c) (defs₀ (F := F)) 𝒱₀ () Set.univ := fun t => by
  rw [bigSep_W1, bigSep_W1, row_at]
  exact triple_restated (row_run m c t) rfl .rfl fun _ => .rfl

theorem share1 (c : Dev nD) (w : Fin cfg1.W) : (dat1 m c).share w = fullShare := by unfold Dat.share; split <;> rfl

/-! ## What it leaves -/

/-- Core `c`'s buffers at the end. -/
def W3 (c : Dev nD) : Valuation τ sig (Elt F) := Pipeline.afterRegion (dat1 m c) (W2 m c)

theorem W3_v3 (c : Dev nD) : W3 m c main_v3 = (dat1 m c).arrAt (3 : Fin 4) cfg1.N :=
  Pipeline.afterRegion_arr (dat1 m c) (W2 m c) launch1.win.arr_inj (3 : Fin 4)
theorem W3_of (c : Dev nD) (r : Ref sig .tc) (h : r ≠ main_v3) : W3 m c r = W2 m c r :=
  Pipeline.afterRegion_keeps (dat1 m c) (W2 m c) launch1.win.arr_inj (dat1_A m c) r (fun w => by
    fin_cases w
    · exact fun _ => rfl
    · exact fun _ => rfl
    · exact fun _ => rfl
    · exact fun e => absurd e.symm h)

/-- The arguments are never written. -/
theorem W3_arg0 (c : Dev nD) : W3 m c main_arg0 = m ((c : Thread nD τ).loc main_arg0) := by
  rw [W3_of m c _ (by decide), W2_of m c _ (by decide)]; exact V1_of m c main_arg0 (by decide)
theorem W3_arg1 (c : Dev nD) : W3 m c main_arg1 = m ((c : Thread nD τ).loc main_arg1) := by
  rw [W3_of m c _ (by decide), W2_of m c _ (by decide)]; exact V1_of m c main_arg1 (by decide)

end Cert.Halo

end
-- ==== Proof.Records.lean ====
/-
The two custom calls as segment records of the program, each with what it is entered from and what it leaves.
-/
module

public import proofs.«01_k».proof.Proof.Region1

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-- Both calls' proof data. -/
def pdats : (p : Fin 2) → (c : Dev nD) → Dat τ (Elt F) Unit ℕ UU ℕ (cfgs p) c
  | 0 => dat0 m
  | 1 => dat1 m

/-- The launch facts of the two calls. -/
theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0
theorem kit1 : Pipeline.PLaunchFacts (nD := nD) (τ := τ) (pcfgs (F := F)) 1 where
  cellOf_inj a := by rw [Subsingleton.elim a adm]; exact cellOf_inj
  win := winFacts1
  pre := Pipeline.PreFacts.none _
  block_pos := block_pos1
  arr_whole := arr_whole1
  stage_whole := stage_whole1

/-- The other buffers of a core while the exchange runs. -/
abbrev aside0 : Finset (DevRef τ sig) := Pipeline.ucRefs τ sig \ Pipeline.arrRefs spec0

omit [FloatOps F] in
theorem held_none (c : Dev nD) (W : Valuation τ sig (Elt F)) :
    (StableHlo.held (c.tc : Thread nD τ) (∅ : Finset (DevRef τ sig)) W : sProp 𝕄) = BI.emp := by
  unfold StableHlo.held; exact BI.bigSep_empty

/-- Into the halo exchange: what a core carries gives what the call starts from. -/
theorem in0 (c : Dev nD) :
    iprop(Pipeline.scopedRest (Val := Elt F) spec0 c ∗ (∃ r, prngReg c r) ∗ StableHlo.held (c.tc : Thread nD τ) (∅ : Finset (DevRef τ sig)) (V1 m c) ∗ enter m c)
      ⊢ (iprop(spare0 c ∗ enter m c) : sProp 𝕄) := by
  unfold spare0
  iintro ⟨Hs, Hp, -, He⟩
  isplitr [He]
  · isplitl [Hs] <;> iassumption
  iexact He

/-- Out of the halo exchange: what the call ends with gives back what the core carries on. -/
theorem out0 (c : Dev nD) :
    (iprop(spare0 c ∗ zeros c) : sProp 𝕄)
      ⊢ iprop(Pipeline.scopedRest (Val := Elt F) spec0 c ∗ (∃ r, prngReg c r) ∗ StableHlo.held (c.tc : Thread nD τ) (∅ : Finset (DevRef τ sig)) (W2 m c)
        ∗ Pipeline.ownSems0 osem0 c ∗ semVal (barCell c) 0) := by
  rw [held_none, ownSems0_eq]
  unfold spare0 zeros
  iintro ⟨⟨Hs, Hp⟩, Hb, Hsd, Hr, He⟩
  isplitl [Hs]; · iexact Hs
  isplitl [Hp]; · iexact Hp
  isplitr; · iempintro
  isplitr [Hb]
  · isplitl [Hsd]; · iexact Hsd
    isplitl [Hr] <;> iassumption
  iexact Hb

/-- All that is owed during the halo exchange sits above level 0. -/
theorem owed0_above (c : Dev nD) (t : Fin (cfg0.N + 1)) : Above 0 ((dat0 m c).owed t) := by
  obtain ⟨t, ht⟩ := t
  cases t with
  | zero => exact above_O₀ c
  | succ t => exact Above.zero 0

set_option backward.isDefEq.respectTransparency.types false in
/-- The exchange's record. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem0 (by decide : Pipeline.OwnSemFacts spec0 osem0)
    ∅ aside0 (Finset.empty_subset _) kit0 rfl (fun c => (body0 m c).loose)
    (fun _ => 0) O₀ (fun c => (zero_add (O₀ c)).symm) (fun _ => rfl) (fun _ => rfl) (share0 m)
    (V1 m) (W2 m) (fun c b hb => Pipeline.afterRegion_off (dat0 m c) (V1 m c) (Pipeline.ucRefs τ sig) b (by simpa using hb))
    (Tk m) (fun c => semVal (barCell c) 0) (enter m) (fun c => semVal (barCell c) 0) (open0 m) (in0 m) (out0 m)
    (fun c => by iintro H; imodintro; iexact H)
    (fun _ => 0)
    ⟨fun c _ _ => by rw [L_tc]; exact Finset.mem_singleton_self _, fun c w s => (lv_dma c _ (stage0_ne w s)).le, fun c t => owed0_above m c t⟩
    (fun _ => iprop(emp))
    (fun c w => by fin_cases w <;> rfl) (fun c w => (Pipeline.afterRegion_arr (dat0 m c) (V1 m c) launch0.win.arr_inj w).symm)

/-- The exchange is entered from the buffers as the host part left them and what the launch kept for it, -/
theorem reg0_pre (c : Dev nD) :
    iprop(StableHlo.held (c : Thread nD τ) (Pipeline.ucRefs τ sig) (V1 m c) ∗ (Tk m c ∗ (∃ r, prngReg c r) ∗ ow c (O₀ c))) ⊢ (reg0 m).pre c := by
  show _ ⊢ iprop(StableHlo.held (c.tc : Thread nD τ) (Pipeline.arrRefs spec0) (V1 m c) ∗ (∃ r, prngReg c r)
    ∗ (StableHlo.held (c.tc : Thread nD τ) aside0 (V1 m c) ∗ emp) ∗ Tk m c ∗ ∃ Wd, owes (c : Thread nD τ) (0 + O₀ c) Wd)
  rw [zero_add, StableHlo.held_sub_split (c.tc : Thread nD τ) (Pipeline.arrRefs_sub_ucRefs _ launch0.win.arr_unscoped) (V1 m c)]
  unfold ow
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- and leaves them at `W2`, the barrier's counter at zero, and nothing owed. -/
theorem reg0_post (c : Dev nD) :
    (reg0 m).post c ⊢ iprop(StableHlo.held (c : Thread nD τ) (Pipeline.ucRefs τ sig) (W2 m c) ∗ (semVal (barCell c) 0 ∗ (∃ r, prngReg c r) ∗ ow c 0)) := by
  show iprop(StableHlo.held (c.tc : Thread nD τ) (Pipeline.arrRefs spec0) (W2 m c) ∗ (∃ r, prngReg c r)
    ∗ (StableHlo.held (c.tc : Thread nD τ) aside0 (W2 m c) ∗ emp) ∗ semVal (barCell c) 0 ∗ ∃ Wd, owes (c : Thread nD τ) (0 : CellTallies nD τ sig Unit) Wd) ⊢ _
  rw [StableHlo.held_sub_split (c.tc : Thread nD τ) (Pipeline.arrRefs_sub_ucRefs _ launch0.win.arr_unscoped) (W2 m c)]
  unfold ow
  iintro ⟨Ha, Hp, ⟨Hr, -⟩, Hb, HO⟩
  isplitl [Ha Hr]; · isplitl [Ha] <;> iassumption
  isplitl [Hb]; · iexact Hb
  isplitl [Hp] <;> iassumption

set_option backward.isDefEq.respectTransparency.types false in
/-- The convolution's record: the barrier's counter and the generator register ride along. -/
def reg1 : Pipeline.RegionSeg (pcfgs (F := F)) adm (pdats m) () defs₀ 𝒱₀ L lv 1 :=
  Pipeline.RegionSeg.ofHeldIn (pcfgs (F := F)) adm (pdats m) () defs₀ 𝒱₀ L lv 1 (fun _ => 0) (Pipeline.ucRefs τ sig)
    (fun _ => iprop(emp)) (fun _ => iprop(emp)) kit1 rfl (fun c => (body1 m c).loose) (fun _ _ => rfl) (fun _ => rfl) (share1 m)
    (fun c => by
      show iprop(Pipeline.scopedRest (Val := Elt F) spec1 c ∗ emp) ⊢ (Pipeline.scopedRest spec1 c : sProp 𝕄)
      iintro ⟨H, -⟩; iexact H)
    (fun c => by
      show (Pipeline.scopedRest spec1 c : sProp 𝕄) ⊢ iprop(Pipeline.scopedRest (Val := Elt F) spec1 c ∗ emp)
      iintro H
      isplitl [H]; · iexact H
      iempintro)
    (fun _ => 0)
    ⟨fun c _ _ => by rw [L_tc]; exact Finset.mem_singleton_self _, fun c w s => (lv_dma c _ (stage1_ne w s)).le, fun c g i h => absurd h (Nat.lt_irrefl 0)⟩
    (fun c => iprop(semVal (barCell c) 0 ∗ ∃ r, prngReg c r)) (W2 m) (fun c w => dat1_A m c w)

set_option backward.isDefEq.respectTransparency.types false in
theorem reg1_pre (c : Dev nD) :
    iprop(StableHlo.held (c : Thread nD τ) (Pipeline.ucRefs τ sig) (W2 m c) ∗ (semVal (barCell c) 0 ∗ (∃ r, prngReg c r) ∗ ow c 0)) ⊢ (reg1 m).pre c := by
  have h : iprop(StableHlo.held (c : Thread nD τ) (Pipeline.ucRefs τ sig) (W2 m c) ∗ ((∃ Wd, owes (c : Thread nD τ) (0 : CellTallies nD τ sig Unit) Wd) ∗ emp
      ∗ (semVal (barCell c) 0 ∗ ∃ r, prngReg c r))) ⊢ (reg1 m).pre c :=
    Pipeline.RegionSeg.ofHeldIn_pre (pcs := pcfgs (F := F)) (a := adm) (pdats := pdats m) (p := 1) (D := fun _ => 0) (S := Pipeline.ucRefs τ sig)
      (X := fun _ => iprop(emp)) (R := fun c => iprop(semVal (barCell c) 0 ∗ ∃ r, prngReg c r)) (W := W2 m) (Pipeline.arrRefs_sub_ucRefs _ launch1.win.arr_unscoped) c
  unfold ow
  iintro ⟨Hh, Hb, Hp, HO⟩
  iapply h
  isplitl [Hh]; · iexact Hh
  isplitl [HO]; · iexact HO
  isplitr; · iempintro
  isplitl [Hb] <;> iassumption

/-- What the convolution leaves: the buffers at `W3`, the barrier's counter at zero, nothing owed. -/
theorem reg1_post (c : Dev nD) :
    (reg1 m).post c ⊢ iprop(StableHlo.held (c : Thread nD τ) (Pipeline.ucRefs τ sig) (W3 m c) ∗ (semVal (barCell c) 0 ∗ ow c 0)) := by
  have h : (reg1 m).post c ⊢ iprop(StableHlo.held (c : Thread nD τ) (Pipeline.ucRefs τ sig) (W3 m c)
      ∗ ((∃ Wd, owes (c : Thread nD τ) (0 : CellTallies nD τ sig Unit) Wd) ∗ emp ∗ (semVal (barCell c) 0 ∗ ∃ r, prngReg c r))) :=
    Pipeline.RegionSeg.ofHeldIn_post (Pipeline.arrRefs_sub_ucRefs _ launch1.win.arr_unscoped) c
  refine h.trans ?_
  unfold ow
  iintro ⟨Hh, HO, -, Hb, -⟩
  isplitl [Hh]; · iexact Hh
  isplitl [Hb] <;> iassumption

end Cert.Halo

end
-- ==== Proof.Launch.lean ====
/-
The launch of the protocol: every cell's invariant made, the barrier cells from their counters and the call's own cells without;
the duty tokens dealt around the ring; the launch's credit read off; and what each core starts the program with.
-/
module

public import proofs.«01_k».proof.Proof.Records

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Cells and tokens -/

/-- The three semaphores of the halo exchange are different. -/
theorem osem0_inj : Function.Injective osem0 := by decide
theorem osem0_ne_bar : ∀ k : Fin 3, osem0 k ≠ .reg barS := by decide

/-- The barrier cells, and the call's own cells. -/
def barEmb : Dev nD ↪ GSem nD τ sig := ⟨fun c => barCell c, fun _ _ h => congrArg (fun g : GSem nD τ sig => g.1.1) h⟩
def ownEmb : Dev nD × Fin 3 ↪ GSem nD τ sig :=
  ⟨fun ck => ((ck.1 : Thread nD τ), osem0 ck.2), fun _ _ h =>
    Prod.ext (congrArg (fun g : GSem nD τ sig => g.1.1) h) (osem0_inj (congrArg Prod.snd h))⟩
abbrev barCells : Finset (GSem nD τ sig) := Finset.univ.map barEmb
abbrev ownCells : Finset (GSem nD τ sig) := Finset.univ.map ownEmb

/-- The six duties of a core's cells: two on the barrier, one on the receive, one on the send, two on the exit. -/
abbrev tokOf : Fin 6 → SemLoc sig × Bool :=
  fun | 0 => (.reg barS, true) | 1 => (.reg barS, false) | 2 => (.dma recvS, false) | 3 => (.dma sendS, false)
      | 4 => (.reg exitS, true) | 5 => (.reg exitS, false)
theorem tokOf_inj : Function.Injective tokOf := by decide
def haloToks : Finset (GSem nD τ sig × ℕ × Bool) :=
  Finset.univ.map ⟨fun ck : Dev nD × Fin 6 => (((ck.1 : Thread nD τ), (tokOf ck.2).1), 0, (tokOf ck.2).2), fun _ _ h =>
    Prod.ext (congrArg (fun t : GSem nD τ sig × ℕ × Bool => t.1.1.1) h)
      (tokOf_inj (Prod.ext (congrArg (fun t : GSem nD τ sig × ℕ × Bool => t.1.2) h) (congrArg (fun t : GSem nD τ sig × ℕ × Bool => t.2.2) h)))⟩

/-- Barrier cells and the calls' own cells are different. -/
theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem0_ne_bar ck.2 (congrArg Prod.snd h)

/-- Every barrier cell and every own cell is among the protocol's. -/
theorem bar_mem (c : Dev nD) : barCell c ∈ (barCells ∪ ownCells : Finset (GSem nD τ sig)) :=
  Finset.mem_union_left _ (Finset.mem_map_of_mem barEmb (Finset.mem_univ c))
theorem own_mem (c : Dev nD) (k : Fin 3) : ((c : Thread nD τ), osem0 k) ∈ (barCells ∪ ownCells : Finset (GSem nD τ sig)) :=
  Finset.mem_union_right _ (Finset.mem_map_of_mem ownEmb (Finset.mem_univ (c, k)))

/-- The launch's element: the pipelines' part and the protocol's. -/
def u₀ : UU := (initOf (Pipeline.cells cfgs cellOf_inj) (Pipeline.launchToks cfgs cellOf_inj), launchOf barCells ownCells haloToks)

/-- The protocol's element is kept on the first device until every device's part is made of it. -/
def start (c : Dev nD) : sProp 𝕄 := if c = 0 then BI.own (ER (launchOf barCells ownCells haloToks)) else iprop(emp)
theorem start_all : bigSep Finset.univ (start (F := F)) = BI.own (ER (launchOf barCells ownCells haloToks)) := by
  rw [bigSep_univ_at _ (0 : Dev nD), bigSep_congr (s := Finset.univ.erase (0 : Dev nD)) (Ψ := fun _ => (BI.emp : sProp 𝕄))
      fun c hc => by unfold start; rw [if_neg (Finset.ne_of_mem_erase hc)]; rfl, BI.bigSep_emp_const]
  unfold start; rw [if_pos rfl]
  exact BI.equiv_iff.mp sep_emp

/-! ## Dealing -/

/-- What all devices may consult. -/
def records (κ : GSem nD τ sig → ℕ) : sProp 𝕄 :=
  iprop((bigSep (barCells ∪ ownCells) fun g => cellInv ER (haloRd m) (κ g) g) ∗ bigSep barCells fun g => reached ER g 0)
instance records_persistent (κ : GSem nD τ sig → ℕ) : BI.Persistent (records m κ) := by unfold records; infer_instance

/-- The invariant of one of the protocol's cells, out of all of them. -/
theorem inv_at (κ : GSem nD τ sig → ℕ) {g : GSem nD τ sig} (hg : g ∈ (barCells ∪ ownCells : Finset (GSem nD τ sig))) :
    records m κ ⊢ cellInv ER (haloRd m) (κ g) g := by
  unfold records; iintro ⟨H, -⟩
  iapply (show (bigSep (barCells ∪ ownCells) fun g => (cellInv ER (haloRd m) (κ g) g : sProp 𝕄)) ⊢ cellInv ER (haloRd m) (κ g) g from bigSep_elim hg)
  iexact H
theorem reached_at (κ : GSem nD τ sig → ℕ) (c : Dev nD) : records m κ ⊢ reached ER (barCell c) 0 := by
  unfold records; iintro ⟨-, H⟩
  iapply (show (bigSep barCells fun g => (reached ER g 0 : sProp 𝕄)) ⊢ reached ER (barCell c) 0 from
    bigSep_elim (Finset.mem_map_of_mem barEmb (Finset.mem_univ c)))
  iexact H

/-- What stays with device `c` alone. -/
def linear (c : Dev nD) : sProp 𝕄 :=
  iprop(atPos ER (barCell c) 0 ∅ 0 ∗ (openTok ER (sendCell c) ∗ openTok ER (recvCell c) ∗ openTok ER (exitCell c)) ∗ payToks c)

/-- What one core gets of the protocol: the shared records and its own tokens. -/
theorem ghost_intro (κ : GSem nD τ sig → ℕ) (c : Dev nD) : iprop(records m κ ∗ linear c) ⊢ iprop(∃ K, ghost m K c) := by
  unfold linear ghost invs
  iintro ⟨#HR, Ha, Ho, Ht⟩
  iexists κ
  isplitr
  · isplitr; · (iapply (inv_at m κ (bar_mem c)); iexact HR)
    isplitr; · (iapply (inv_at m κ (own_mem c 0)); iexact HR)
    isplitr; · (iapply (inv_at m κ (own_mem c 1)); iexact HR)
    isplitr; · (iapply (inv_at m κ (own_mem c 2)); iexact HR)
    isplitr; · (iapply (inv_at m κ (bar_mem (lft c))); iexact HR)
    isplitr; · (iapply (inv_at m κ (bar_mem (rgt c))); iexact HR)
    isplitr; · (iapply (inv_at m κ (own_mem (rgt c) 1)); iexact HR)
    isplitr; · (iapply (inv_at m κ (own_mem (lft c) 2)); iexact HR)
    iapply (inv_at m κ (own_mem (rgt c) 2)); iexact HR
  isplitl [Ha Ho]
  · isplitl [Ha]; · iexact Ha
    iexact Ho
  isplitr
  · isplitr; · (iapply (reached_at m κ (lft c)); iexact HR)
    iapply (reached_at m κ (rgt c)); iexact HR
  iexact Ht

/-- The tokens of a core's own cells. -/
def toks (c : Dev nD) : sProp 𝕄 :=
  iprop(dutyTok ER (barCell c) 0 true ∗ dutyTok ER (barCell c) 0 false ∗ dutyTok ER (recvCell c) 0 false ∗ dutyTok ER (sendCell c) 0 false
    ∗ dutyTok ER (exitCell c) 0 true ∗ dutyTok ER (exitCell c) 0 false)

/-- Six pieces indexed by position, written out. -/
theorem bigSep_six (P : Fin 6 → sProp 𝕄) : (BI.bigSep Finset.univ P : sProp 𝕄) = iprop(P 0 ∗ P 1 ∗ P 2 ∗ P 3 ∗ P 4 ∗ P 5) :=
  bigSep_univ_eq_bigSepL [0, 1, 2, 3, 4, 5] (by decide) (by decide) P

/-- All duty tokens, sorted by the device that holds them. -/
theorem toks_eq : bigSep haloToks (fun x => (dutyTok ER x.1 x.2.1 x.2.2 : sProp 𝕄)) = bigSep Finset.univ fun c : Dev nD => toks c := by
  unfold haloToks; rw [bigSep_map, bigSep_univ_prod]
  exact bigSep_congr fun c _ => by unfold toks; rw [bigSep_six]; rfl

/-- Each token goes to the device that pays its duty. -/
theorem toks_around : (bigSep Finset.univ fun c : Dev nD => (toks c : sProp 𝕄)) ⊢ bigSep Finset.univ fun c : Dev nD => payToks c := by
  unfold toks payToks
  simp only [bigSep_sep']
  rw [bigSep_univ_equiv ring.symm (fun c : Dev nD => (dutyTok ER (barCell c) 0 true : sProp 𝕄)),
    bigSep_univ_equiv ring (fun c : Dev nD => (dutyTok ER (barCell c) 0 false : sProp 𝕄)),
    bigSep_univ_equiv ring (fun c : Dev nD => (dutyTok ER (recvCell c) 0 false : sProp 𝕄)),
    bigSep_univ_equiv ring.symm (fun c : Dev nD => (dutyTok ER (exitCell c) 0 true : sProp 𝕄)),
    bigSep_univ_equiv ring (fun c : Dev nD => (dutyTok ER (exitCell c) 0 false : sProp 𝕄))]
  exact BI.Entails.refl _

/-! ## The launch's credit -/

/-- One entry of a tally. -/
theorem tally_at (d c : Dev nD) (s s' : SemLoc sig) (n : ℕ) :
    (tallyAt ((d : Thread nD τ), s) () n : CellTallies nD τ sig Unit) ((c : Thread nD τ), s') () = if c = d ∧ s' = s then n else 0 := by
  rw [tallyAt_apply]
  congr 1
  apply propext
  constructor
  · rintro ⟨h, -⟩; exact ⟨congrArg (fun g : GSem nD τ sig => g.1.1) h, congrArg Prod.snd h⟩
  · rintro ⟨rfl, rfl⟩; exact ⟨rfl, rfl⟩

/-- What a device owes at launch to one cell. -/
theorem O₀_at (d c : Dev nD) (s : SemLoc sig) : O₀ d ((c : Thread nD τ), s) ()
    = (if c = rgt d ∧ s = .reg exitS then 1 else 0) + (if c = lft d ∧ s = .reg exitS then 1 else 0)
      + (if c = rgt d ∧ s = .dma recvS then cr d else 0) + (if c = rgt d ∧ s = .reg barS then 1 else 0) + (if c = lft d ∧ s = .reg barS then 1 else 0) := by
  unfold O₀ O₄ O₃ O₂ O₁
  simp only [Pi.add_apply, Finsupp.add_apply, tally_at]

/-- What all devices together owe to a barrier, an exit and a receive cell. -/
theorem due_bar : ∀ c : Dev nD, ∑ d : Dev nD, O₀ d (barCell c) () = 2 := by
  simp only [O₀_at, exit_ne_bar.symm, recv_ne_bar.symm, and_false, and_true, if_false]; decide
theorem due_exit : ∀ c : Dev nD, ∑ d : Dev nD, O₀ d (exitCell c) () = 2 := by
  simp only [O₀_at, exit_ne_bar, exit_ne_recv, and_false, and_true, if_false]; decide
theorem due_recv (c : Dev nD) : ∑ d : Dev nD, O₀ d (recvCell c) () = crIn c := by
  simp only [O₀_at, recv_ne_bar, recv_ne_exit, and_false, and_true, if_false, zero_add, add_zero]
  rw [Finset.sum_eq_single (lft c) (fun d _ h => if_neg fun e => h (by rw [e, lft_rgt])) (fun h => absurd (Finset.mem_univ _) h),
    if_pos (rgt_lft c).symm, ← crIn_rgt, rgt_lft]

/-- The launch credit of a cell, from what is owed to it. -/
theorem launch_at (c : Dev nD) (s : SemLoc sig) (n : ℕ) (h : ∑ d : Dev nD, O₀ d ((c : Thread nD τ), s) () = n) :
    tallyOn ((c : Thread nD τ), s) (launchCredit (Pipeline.owing O₀) 0 ((c : Thread nD τ), s)) = (tallyAt ((c : Thread nD τ), s) () n : CellTallies nD τ sig Unit) := by
  unfold tallyAt; refine congrArg _ (Finsupp.ext fun u => ?_); cases u
  rw [Pipeline.launchCredit_owing, Finsupp.single_eq_same, h]

/-- A core's launch credit: two units on the barrier, a copy's on the receive cell where one arrives, two units at the exit. -/
theorem creds_intro (c : Dev nD) : (Pipeline.launchCred O₀ c : sProp 𝕄) ⊢ creds c := by
  unfold Pipeline.launchCred creds
  rw [bigSep_univ_at _ (SemLoc.reg barS), launch_at c _ _ (due_bar c)]
  refine sep_mono_right ?_
  rw [BI.bigSep_erase (i := SemLoc.dma recvS) (Finset.mem_erase.mpr ⟨recv_ne_bar, Finset.mem_univ _⟩), launch_at c _ _ (due_recv c)]
  refine sep_mono_right ?_
  rw [← launch_at c _ _ (due_exit c)]
  exact bigSep_elim (Finset.mem_erase.mpr ⟨exit_ne_recv, Finset.mem_erase.mpr ⟨exit_ne_bar, Finset.mem_univ _⟩⟩)

/-! ## The start -/

/-- What rides beside the buffers up to the exchange. -/
abbrev E₀ (c : Dev nD) : sProp 𝕄 := iprop(Tk m c ∗ (∃ r, prngReg c r) ∗ ow c (O₀ c))
abbrev T₀ (c : Dev nD) : sProp 𝕄 := iprop(StableHlo.held (c : Thread nD τ) (Pipeline.ucRefs τ sig) (V0 m c) ∗ E₀ m c)

/-- A core's launch holdings beside the protocol's. -/
def bundle (c : Dev nD) : sProp 𝕄 :=
  iprop(StableHlo.held (c : Thread nD τ) (Pipeline.ucRefs τ sig) (V0 m c) ∗ creds c ∗ owes (c : Thread nD τ) (O₀ c) ∅ ∗ ∃ r, prngReg c r)

/-- A core's start, from its part of the protocol and of the machine. -/
theorem T₀_intro (κ : GSem nD τ sig → ℕ) (c : Dev nD) : iprop(records m κ ∗ (linear c ∗ bundle m c)) ⊢ T₀ m c := by
  unfold bundle T₀ E₀ Tk ow
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

/-- The barrier semaphore is the only one that outlives the calls. -/
theorem unscoped_eq : ∀ sm : SemLoc sig, sm.isScoped .tc = false → sm = .reg barS := by decide
omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A core's launch holdings, sorted. -/
theorem sorted (c : Dev nD) :
    iprop(unscopedBufs c (fun b => m ((c : Thread nD τ).loc b)) ∗ unscopedSems0 c ∗ owes (c : Thread nD τ) (O₀ c) ∅ ∗ Pipeline.launchCred O₀ c
        ∗ prngReg c (ρ c) ∗ start c)
      ⊢ (iprop(bundle m c ∗ (semVal (barCell c) 0 ∗ start c)) : sProp 𝕄) := by
  rw [show unscopedBufs c (fun b => m ((c : Thread nD τ).loc b)) = StableHlo.held (c : Thread nD τ) (Pipeline.ucRefs τ sig) (V0 m c) from
    Pipeline.unscopedBufs_held c (V0 m c), unscopedSems0_eq]
  unfold bundle
  iintro ⟨Hh, Hv, HO, Hcr, Hp, HG⟩
  isplitl [Hh HO Hcr Hp]
  · isplitl [Hh]; · iexact Hh
    isplitl [Hcr]; · (iapply (creds_intro (F := F) c); iexact Hcr)
    isplitl [HO]; · iexact HO
    iexists (ρ c); iexact Hp
  isplitl [Hv] <;> iassumption

/-- Two families over the devices, as one of pairs, and back. -/
theorem paired {P Q : Dev nD → sProp 𝕄} : iprop(bigSep Finset.univ P ∗ bigSep Finset.univ Q) ⊢ (bigSep Finset.univ fun c => iprop(P c ∗ Q c) : sProp 𝕄) :=
  Entails.of_eq (bigSep_sep' _ _ _).symm
theorem unpaired {P Q : Dev nD → sProp 𝕄} : (bigSep Finset.univ fun c => iprop(P c ∗ Q c) : sProp 𝕄) ⊢ iprop(bigSep Finset.univ P ∗ bigSep Finset.univ Q) :=
  Entails.of_eq (bigSep_sep' _ _ _)

/-- Every core's start, made of all the launch holdings at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ start c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => iprop(openTok ER (sendCell c) ∗ openTok ER (recvCell c) ∗ openTok ER (exitCell c))) :=
    Entails.of_eq (by
      rw [bigSep_map, bigSep_univ_prod]
      exact bigSep_congr fun c _ => bigSep_three (fun k : Fin 3 => (openTok ER ((c : Thread nD τ), osem0 k) : sProp 𝕄)))
  iintro ⟨H, -⟩
  ihave H1 := (show _ ⊢ (bigSep Finset.univ fun c : Dev nD => iprop(bundle m c ∗ (semVal (barCell c) 0 ∗ start c)) : sProp 𝕄) from
    bigSep_mono fun c _ => sorted m ρ c) $$ H
  ihave H2 := unpaired $$ H1; icases H2 with ⟨HB, H3⟩
  ihave H4 := unpaired $$ H3; icases H4 with ⟨Hv, HG⟩
  ihave Hu := (show bigSep Finset.univ (start (F := F)) ⊢ BI.own (ER (launchOf barCells ownCells haloToks)) from Entails.of_eq start_all) $$ HG
  imod (Rounds.fund_launch ER (haloRd m) cells_disjoint (fun g _ h => h) haloToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  iapply paired
  isplitr [HB]
  · unfold linear
    iapply paired; isplitl [Hat]; · iapply hat $$ Hat
    iapply paired; isplitl [Hopen]; · iapply hopen $$ Hopen
    iapply (toks_around (F := F))
    iapply (Entails.of_eq (toks_eq (F := F))) $$ Htok
  · iexact HB

end Cert.Halo

end
-- ==== Proof.KernelRun.lean ====
/-
The run of the whole program, over any float values: it ends, with the arguments as launched, the result at what the convolution
leaves, and every semaphore at zero.
-/
module

public import proofs.«01_k».proof.Proof.Launch

@[expose] public section

set_option maxRecDepth 16384

noncomputable section

namespace Cert.Halo

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- What is left of a core at the end. -/
abbrev Tₙ (c : Dev nD) : sProp 𝕄 := iprop(StableHlo.held (c : Thread nD τ) (Pipeline.ucRefs τ sig) (W3 m c) ∗ semVal (barCell c) 0)

/-- The program as its three parts. -/
abbrev parts (c : Dev nD) : List (Pipeline.Seg (pcfgs (F := F)) adm (pdats m) () defs₀ 𝒱₀ L lv) :=
  segs m 𝒱₀ L lv (fun _ => E₀ m) () (pdats m) (reg0 m) (reg1 m) c

/-- A core's buffer among those held to the end. -/
theorem mem_held (r : Ref sig .tc) (h : ¬ r.isScoped) : Proc.devRef .tc r ∈ Pipeline.ucRefs τ sig :=
  Finset.mem_filter.mpr ⟨StableHlo.devRef_mem_tcRefs r, h⟩

set_option backward.isDefEq.respectTransparency.types false in
/-- From any memory with zero counters, every weakly fair run of the program on the eight devices ends, and every final state has the
    arguments unchanged, the result at what the convolution's write-backs leave, and every semaphore at zero. -/
theorem run_main : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v3) = (dat1 m c).arrAt (3 : Fin 4) cfg1.N) ∧ r.2.sem = fun _ => 0) :=
  Pipeline.θ_run_regions_kit_dev_sems (pcfgs (F := F)) adm (pdats m) () cellOf_inj EP defs₀ 𝒱₀ L lv m ρ main (parts m)
    (fun c Q => by
      rewrite [main_chain c, Pipeline.Seg.run_eq_chain, show (parts m c).map Pipeline.Seg.prog
        = [StableHlo.seq hostOps0, Prog.lift (.customCall (Pipeline.entry 0) ()), Prog.lift (.customCall (Pipeline.entry 1) ())] from rfl]
      dsimp (config := { failIfUnchanged := false }) only
      exact .rfl)
    (fun c => by simp only [parts, segs, Pipeline.Seg.pipes_host, Pipeline.Seg.pipes_region, Pipeline.Seg.pipes_nil]; decide)
    (O₀ := O₀) (hL := L_of_ne) (G := start) (u₀ := u₀)
    (hu₀ := by
      unfold u₀
      iintro Hu
      ihave H := (ownU_pair _ _) $$ Hu
      icases H with ⟨HP, HX⟩
      imodintro
      isplitl [HP]; · iexact HP
      rw [start_all]; iexact HX)
    (T₀ := T₀ m) (Tₙ := Tₙ m)
    (hch := fun c => ⟨.rfl, reg0_pre m c, (reg0_post m c).trans (reg1_pre m c), (reg1_post m c).trans (by
      unfold ow
      iintro ⟨Hh, Hb, HO⟩
      isplitr [HO]
      · isplitl [Hh] <;> iassumption
      iexact HO)⟩)
    (hinit := init m ρ)
    (QY := fun c s => (s.mem ((c.tc : Thread nD τ).loc main_arg0) = W3 m c main_arg0 ∧ s.mem ((c.tc : Thread nD τ).loc main_arg1) = W3 m c main_arg1
      ∧ s.mem ((c.tc : Thread nD τ).loc main_v3) = W3 m c main_v3) ∧ s.sem (barCell c) = 0)
    (hfin := fun c s' => by
      dsimp only [Tₙ]; unfold StableHlo.held
      iintro ⟨⟨Hh, Hb⟩, HSI⟩
      icombine HSI Hb gives %hb
      ihave Hr := (pointsTo_read_all (Pipeline.ucRefs τ sig) (fun b => ((c : Thread nD τ).1, b)) (W3 m c) s') $$ [Hh HSI]
      · isplitl [Hh] <;> iassumption
      icases Hr with ⟨%h, HSI⟩
      imodintro
      isplitr
      · ipureintro
        exact ⟨⟨h _ (mem_held main_arg0 (by decide)), h _ (mem_held main_arg1 (by decide)), h _ (mem_held main_v3 (by decide))⟩, by simpa using hb⟩
      iexact HSI)
    (hQ := fun s h hs => ⟨fun c => by
        obtain ⟨⟨h0, h1, h3⟩, -⟩ := h c
        exact ⟨h0.trans (W3_arg0 m c), h1.trans (W3_arg1 m c), h3.trans (W3_v3 m c)⟩,
      sem_eq_zero hs fun c sm hsm => by
        obtain rfl := unscoped_eq sm hsm
        exact (h c).2⟩)

end Cert.Halo

end
-- ==== Proof.Value.lean ====
/-
The arithmetic of the result over the extended reals: both the kernel's grid point and the reference are the activation of four taps
over the padded sequence.
-/
module

public import proofs.«01_k».proof.Proof.Region1
public import proofs.«01_k».proof.Proof.Gen.ReferenceIdeal.Run
public import Idealize.ShloMosaic.Lib.Pipeline.ValueKit

@[expose] public section

set_option maxRecDepth 16384

noncomputable section

namespace Cert.Halo

open Cert.KernelIdeal Cert.KernelIdeal.Gen
open Idealize.ShloMosaic Idealize.ShloMosaic.TcCoe Idealize.SL.Sem

/-- The activation, as the reference writes it. -/
def silu (a : EReal) : EReal := Ideal.div a (1 + Ideal.exp (-a))

/-- The exponential is never negative. -/
theorem exp_nonneg (a : EReal) : 0 ≤ Ideal.exp a := by
  induction a with
  | bot => exact le_rfl
  | top => exact le_top
  | coe r => rw [Ideal.exp_coe]; exact_mod_cast (Real.exp_pos r).le

/-- The kernel writes it as a product with the logistic function: the same function. -/
theorem silu_eq (a : EReal) : a * Ideal.logistic a = silu a := by
  have h : (1 : EReal) + Ideal.exp (-a) ≠ 0 := (add_pos_of_pos_of_nonneg zero_lt_one (exp_nonneg (-a))).ne'
  unfold silu Ideal.logistic Ideal.div
  rw [if_neg h, if_neg h, one_mul]

/-- The whole sequence behind three rows of zeros. -/
def padded (X : FVec Ideal Cert.ReferenceIdeal.S4x16384x1024 .bf16) (b : Fin 4) (s : ℕ) (ch : Fin 1024) : EReal :=
  if h : 3 ≤ s ∧ s - 3 < 16384 then X (ix3 b ⟨s - 3, h.2⟩ ch) else 0

/-- Four taps over the padded sequence, then the activation. -/
def out (X : FVec Ideal Cert.ReferenceIdeal.S4x16384x1024 .bf16) (K : FVec Ideal S4x1024 .bf16) (b : Fin 4) (s : ℕ) (ch : Fin 1024) : EReal :=
  silu (padded X b (s + 3) ch * K (ix2 3 ch) + padded X b s ch * K (ix2 0 ch) + padded X b (1 + s) ch * K (ix2 1 ch)
    + padded X b (2 + s) ch * K (ix2 2 ch))

/-- A choice between two values that are both `v`. -/
theorem pick {p : Prop} [Decidable p] {A : p → EReal} {B : ¬ p → EReal} {v : EReal} (hA : ∀ h, A h = v) (hB : ∀ h, B h = v) :
    dite p A B = v := by by_cases h : p <;> simp [h, hA, hB]

/-- Equal samples, equal sums of taps. -/
theorem taps {a b c d a' b' c' d' k l m n : EReal} (ha : a = a') (hb : b = b') (hc : c = c') (hd : d = d') :
    a * k + b * l + c * m + d * n = a' * k + b' * l + c' * m + d' * n := by rw [ha, hb, hc, hd]

/-- A grid point, from a batch row, the taps and a halo that hold device `c`'s part of the padded sequence, is `out` there. -/
theorem conv_at (c : ℕ) (X : FVec Ideal Cert.ReferenceIdeal.S4x16384x1024 .bf16) (i : grid1.Coords) (b : Fin 4) (hb : (i 0).val = b.val)
    (x : FVec Ideal S1x2048x1024 .bf16) (k : FVec Ideal S4x1024 .bf16) (h : FVec Ideal S4x3x1024 .bf16)
    (hx : ∀ (s : Fin 2048) (ch : Fin 1024), x (ix3 0 s ch) = padded X b (c * 2048 + s.val + 3) ch)
    (hh : ∀ (s : Fin 3) (ch : Fin 1024), h (ix3 b s ch) = padded X b (c * 2048 + s.val) ch) (y : S1x2048x1024.Idx) :
    conv (F := Ideal) i x k h y = out X k b (c * 2048 + (y 1).val) (y 2) := by
  have hr : ∀ (s : ℕ) (hs : s < 3) (p0 p1 p2), h (ix3 ⟨k1_off1 i 0, p0⟩ ⟨k1_off1 i 1 + s, p1⟩ ⟨k1_off1 i 2 + (y 2).val, p2⟩)
      = padded X b (c * 2048 + s) (y 2) := fun s hs p0 p1 p2 => by
    refine Eq.trans (congrArg h ?_) (hh ⟨s, hs⟩ _)
    have e := k1_off1_eq i
    funext a
    fin_cases a <;> refine Fin.ext ?_
    · exact (congrFun e 0).trans hb
    · exact (congrArg (· + s) (congrFun e 1)).trans (Nat.zero_add s)
    · exact (congrArg (· + (y 2).val) (congrFun e 2)).trans (Nat.zero_add _)
  have hq : ∀ (n : ℕ) (hn : 3 ≤ n + (y 1).val) (p), x (ix3 0 ⟨n + (y 1).val - 3, p⟩ (y 2)) = padded X b (n + (c * 2048 + (y 1).val)) (y 2) :=
    fun n hn p => (hx _ _).trans (congrArg (padded X b · (y 2)) (by simp only; omega))
  pointwise [conv, k1_pay1]
  refine (silu_eq _).trans (congrArg silu (taps (hx _ _) (pick (fun e => ?_) fun e => ?_) (pick (fun e => ?_) fun e => ?_) (pick (fun e => ?_) fun e => ?_)))
  · exact (hr _ e _ _ _).trans (congrArg (padded X b · (y 2)) (by omega))
  · exact (hx _ _).trans (congrArg (padded X b · (y 2)) (by simp only; omega))
  · exact (hr _ e _ _ _).trans (congrArg (padded X b · (y 2)) (by omega))
  · exact hq 1 (by omega) _
  · exact (hr _ e _ _ _).trans (congrArg (padded X b · (y 2)) (by omega))
  · exact hq 2 (by omega) _

/-- The padded sequence among the zeros, and behind them. -/
theorem padded_lt {X : FVec Ideal Cert.ReferenceIdeal.S4x16384x1024 .bf16} {b : Fin 4} {s : ℕ} {ch : Fin 1024} (h : s < 3) : padded X b s ch = 0 :=
  dif_neg (by omega)
theorem padded_ge {X : FVec Ideal Cert.ReferenceIdeal.S4x16384x1024 .bf16} {b : Fin 4} {s : ℕ} {ch : Fin 1024} (h : 3 ≤ s) (p : s - 3 < 16384) :
    padded X b s ch = X (ix3 b ⟨s - 3, p⟩ ch) := dif_pos ⟨h, p⟩

/-- The reference's result is `out`. -/
theorem ref_at (m : (ℓ : Loc Cert.ReferenceIdeal.nD Cert.ReferenceIdeal.τ Cert.ReferenceIdeal.sig) → Buf (Elt Ideal) ℓ)
    (y : Cert.ReferenceIdeal.S4x16384x1024.Idx) :
    Cert.ReferenceIdeal.Value.res_main_v38 m 0 y
      = out (m (((0 : Dev Cert.ReferenceIdeal.nD).tc : Thread Cert.ReferenceIdeal.nD Cert.ReferenceIdeal.τ).loc Cert.ReferenceIdeal.main_arg0))
          (m (((0 : Dev Cert.ReferenceIdeal.nD).tc : Thread Cert.ReferenceIdeal.nD Cert.ReferenceIdeal.τ).loc Cert.ReferenceIdeal.main_arg1)) (y 0) (y 1).val (y 2) := by
  pointwise [Cert.ReferenceIdeal.Value.res_main_v38]
  refine congrArg silu ((add_comm _ _).trans ?_)
  rw [← add_assoc, ← add_assoc]
  refine taps ?_ (pick (fun e => ?_) fun e => ?_) (pick (fun e => ?_) fun e => ?_) (pick (fun e => ?_) fun e => ?_)
  · refine Eq.trans (congrArg _ ?_) (padded_ge (by omega) (by have := (y 1).isLt; simpa using this)).symm
    funext a
    fin_cases a <;> rfl
  · exact (padded_lt e).symm
  · exact (padded_ge (by omega) _).symm
  · exact (padded_lt e).symm
  · exact (padded_ge (by omega) _).symm
  · exact (padded_lt e).symm
  · exact (padded_ge (by omega) _).symm

end Cert.Halo

end
-- ==== Proof.Result.lean ====
/-
The result of the program over the extended reals: what the write-backs leave on a device is its block of the reference's result.
-/
module

public import proofs.«01_k».proof.Proof.Value

@[expose] public section

set_option maxRecDepth 16384

noncomputable section

namespace Cert.Halo

open Cert.KernelIdeal Cert.KernelIdeal.Gen
open Idealize.ShloMosaic Idealize.ShloMosaic.TcCoe Idealize.SL.Sem

variable (m : (ℓ : Loc nD τ sig) → Buf (Elt Ideal) ℓ)

/-- The windows' block indices: a batch row each for the input and the output, everything for the taps and the halo. -/
theorem idx : ∀ t : Fin cfg1.N, win1_0.index t = ![(grid1.coords t 0).val, 0, 0] ∧ win1_1.index t = ![0, 0] ∧ win1_2.index t = ![0, 0, 0]
    ∧ win1_3.index t = ![(grid1.coords t 0).val, 0, 0] :=
  (by decide +kernel : ∀ t : Fin grid1.N, _)

/-- The halo exchange's input window is the whole of the trailing rows. -/
theorem idx_tail : ∀ t : Fin cfg0.N, win0_0.index t = ![0, 0, 0] := (by decide +kernel : ∀ t : Fin grid0.N, _)

/-- The convolution reads the arguments as launched, and the halo that landed. -/
theorem W2_arg0 (c : Dev nD) : W2 m c main_arg0 = m ((c : Thread nD τ).loc main_arg0) :=
  (W2_of m c _ (by decide)).trans (V1_of m c main_arg0 (by decide))
theorem W2_arg1 (c : Dev nD) : W2 m c main_arg1 = m ((c : Thread nD τ).loc main_arg1) :=
  (W2_of m c _ (by decide)).trans (V1_of m c main_arg1 (by decide))

/-- A grid point's blocks: the batch row of the device's part of the sequence, all the taps, and the whole halo that landed. -/
theorem blk_x (c : Dev nD) (t : Fin cfg1.N) (s : Fin 2048) (ch : Fin 1024) :
    blk1 m c 0 t (ix3 0 s ch) = m ((c : Thread nD τ).loc main_arg0) (ix3 ⟨(grid1.coords t 0).val, (grid1.coords t 0).isLt⟩ s ch) := by
  refine (congrFun (W2_arg0 m c) _).trans ?_
  blk_ext [idx t]
theorem blk_k (c : Dev nD) (t : Fin cfg1.N) : blk1 m c 1 t = m ((c : Thread nD τ).loc main_arg1) := by
  funext y
  refine (congrFun (W2_arg1 m c) _).trans ?_
  blk_ext [idx t]
theorem blk_h (c : Dev nD) (t : Fin cfg1.N) : blk1 m c 2 t = landed m c := by
  funext y
  refine (congrFun (W2_v2 m c) _).trans ?_
  blk_ext [idx t]

/-- The host's slice: the last three rows of the device's sequence. -/
theorem tail_eq (c : Dev nD) : V1 m c main_v1
    = extractStridedSlice S4x3x1024 ![0, 2045, 0] (m ((c : Thread nD τ).loc main_arg0)) slices_S4x2048x1024_S4x3x1024_0_2045_0 := by
  after_results_simp <;> rfl

/-- The rows a device sends are the last three of its own. -/
theorem tail_at (c : Dev nD) (b : Fin 4) (s : Fin 3) (ch : Fin 1024) :
    xstg m c (ix3 b s ch) = m ((c : Thread nD τ).loc main_arg0) (ix3 b ⟨2045 + s.val, by omega⟩ ch) := by
  refine (congrFun (tail_eq m c) _).trans ?_
  pointwise []
  blk_ext [idx_tail t0_0]

/-! ## Against the whole arrays -/

variable (X : FVec Ideal Cert.ReferenceIdeal.S4x16384x1024 .bf16)

/-- A device's row is the padded sequence's row three further on from where the device's part begins. -/
theorem row_padded (c : Dev nD) (hX : m ((c : Thread nD τ).loc main_arg0) = Layout.block ⟨3, ![4, 2048, 1024]⟩ ⟨3, ![4, 16384, 1024]⟩ 1 8 c X)
    (b : Fin 4) (s : Fin 2048) (ch : Fin 1024) :
    m ((c : Thread nD τ).loc main_arg0) (ix3 b s ch) = padded X b (c.val * 2048 + s.val + 3) ch := by
  have hc : c.val < 8 := c.isLt
  have hs := s.isLt
  rw [hX, padded_ge (by omega) (by omega), Layout.block_apply]
  refine congrArg X ?_
  funext a
  fin_cases a <;> rfl

/-- The halo that lands on a device is the three rows of the padded sequence where its part begins. -/
theorem landed_padded (hX : ∀ c : Dev nD, m ((c : Thread nD τ).loc main_arg0) = Layout.block ⟨3, ![4, 2048, 1024]⟩ ⟨3, ![4, 16384, 1024]⟩ 1 8 c X)
    (c : Dev nD) (b : Fin 4) (s : Fin 3) (ch : Fin 1024) :
    landed m c (ix3 b s ch) = padded X b (c.val * 2048 + s.val) ch := by
  have hs := s.isLt
  have hc : c.val < 8 := c.isLt
  unfold landed
  by_cases h : 0 < c.val
  · rw [if_pos h, tail_at, row_padded m X (lft c) (hX _)]
    refine congrArg (padded X b · ch) ?_
    have hl : (lft c).val = c.val - 1 := by unfold lft; simp only; omega
    rw [hl]; simp only; omega
  · rw [if_neg h, padded_lt (by omega)]
    pointwise [k0_pay1]

/-- What the write-backs leave on a device is its block of the reference's result. -/
theorem final (m' : (ℓ : Loc Cert.ReferenceIdeal.nD Cert.ReferenceIdeal.τ Cert.ReferenceIdeal.sig) → Buf (Elt Ideal) ℓ)
    (hagree : ∀ c : Dev nD,
      m ((c : Thread nD τ).loc main_arg0) = Layout.block ⟨3, ![4, 2048, 1024]⟩ ⟨3, ![4, 16384, 1024]⟩ 1 8 c
        (m' (((0 : Dev Cert.ReferenceIdeal.nD).tc : Thread Cert.ReferenceIdeal.nD Cert.ReferenceIdeal.τ).loc Cert.ReferenceIdeal.main_arg0))
      ∧ m ((c : Thread nD τ).loc main_arg1) = m' (((0 : Dev Cert.ReferenceIdeal.nD).tc : Thread Cert.ReferenceIdeal.nD Cert.ReferenceIdeal.τ).loc Cert.ReferenceIdeal.main_arg1))
    (c : Dev nD) :
    (dat1 m c).arrAt (3 : Fin 4) cfg1.N
      = Layout.block ⟨3, ![4, 2048, 1024]⟩ ⟨3, ![4, 16384, 1024]⟩ 1 8 c (Cert.ReferenceIdeal.Value.res_main_v38 m' 0) := by
  refine (dat1 m c).arrAt_eq_of_covers (3 : Fin 4) _ (by decide +kernel) fun t hf y => ?_
  blk_simp
  rw [after1_3]; unfold row1
  refine (conv_at c.val _ (grid1.coords t) ⟨(grid1.coords t 0).val, (grid1.coords t 0).isLt⟩ rfl _ _ _
    (fun s ch => (blk_x m c t s ch).trans (row_padded m _ c (hagree c).1 _ s ch))
    (fun s ch => by rw [blk_h]; exact landed_padded m _ (fun d => (hagree d).1) c _ s ch) y).trans ?_
  rw [blk_k, (hagree c).2]
  refine Eq.trans ?_ (ref_at m' _).symm
  have e := (idx t).2.2.2
  refine congr (congr (congrArg (out _ _) (Fin.ext ?_)) ?_) (Fin.ext ?_)
  · show (grid1.coords t 0).val = ((win1_3.blk t).view.emb y 0).val
    blk_simp [e]
  · show _ = c.val * 2048 + ((win1_3.blk t).view.emb y 1).val
    blk_simp [e]
  · show _ = ((win1_3.blk t).view.emb y 2).val
    blk_simp [e]

end Cert.Halo

end
-- ==== Proof.lean ====
/-
The claim about the halo-exchange convolution on eight devices: the frames of the kernel, its idealization and the reference, and
the equality of the idealization's result with the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KernelRun
public import proofs.«01_k».proof.Proof.Result
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- The kernel's table of bodies is the idealization's: the two programs have one text. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | 1, (t, s) => rfl
theorem table_eq : Cert.Kernel.defs (F := Bits) = Cert.KernelIdeal.defs (F := Bits) :=
  congrArg (Pipeline.defs Cert.KernelIdeal.pcfgs) bodies_eq

/-- The kernel runs and leaves its arguments and every semaphore as it found them: the idealization's run, read at machine
    floats. -/
theorem frame_kernel : Cert.quiescent_Kernel := fun m ρ _ => by
  have h := Cert.Halo.run_main (F := Bits) m ρ
  rw [← table_eq] at h
  exact (θ_run Cert.Kernel.defs _ _).mono (fun _ h => ⟨fun c => ⟨(h.1 c).1, (h.1 c).2.1⟩, h.2⟩) h

/-- The idealization runs and leaves its arguments and every semaphore as it found them. -/
theorem frame_ideal : Cert.quiescent_KernelIdeal := fun m ρ _ =>
  (θ_run Cert.KernelIdeal.defs _ _).mono (fun _ h => ⟨fun c => ⟨(h.1 c).1, (h.1 c).2.1⟩, h.2⟩) (Cert.Halo.run_main (F := Ideal) m ρ)

/-- The reference runs and leaves its arguments and every semaphore as it found them. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

/-- The idealization's result is the reference's, block by block. -/
theorem algebraic : Cert.algebraic_KernelIdeal_ReferenceIdeal := fun m ρ m' ρ' _ hagree =>
  ⟨Cert.ReferenceIdeal.Value.res_main_v38 m' 0,
    (θ_run Cert.KernelIdeal.defs _ _).mono (fun _ h c => ⟨(h.1 c).2.2.trans (Cert.Halo.final m m' hagree c), (h.1 c).1, (h.1 c).2.1⟩)
      (Cert.Halo.run_main (F := Ideal) m ρ),
    (θ_run Cert.ReferenceIdeal.defs _ _).mono (fun _ h => h 0) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
